-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_ok : Cert.Pre_ok.Facts),
    quiescent_Kernel (hKernel := hKernel) (hPre_in_range := hPre_in_range)
    ∧ quiescent_KernelIdeal (hKernelIdeal := hKernelIdeal) (hPre_in_range := hPre_in_range)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_in_range.lean ====
abbrev S8192 : Shape := ⟨1, ![8192]⟩
abbrev S100000x128 : Shape := ⟨2, ![100000, 128]⟩
abbrev S1000x128 : Shape := ⟨2, ![1000, 128]⟩
abbrev S50x128 : Shape := ⟨2, ![50, 128]⟩
abbrev S50 : Shape := ⟨1, ![50]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S100000x128 .f32) (main_arg2 : FVec F S1000x128 .f32) (main_arg3 : FVec F S100000x128 .f32) (main_arg4 : FVec F S50x128 .f32) (main_arg5 : FVec F S50 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 100000#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Pre_ok.lean ====
abbrev S8192 : Shape := ⟨1, ![8192]⟩
abbrev S100000x128 : Shape := ⟨2, ![100000, 128]⟩
abbrev S1000x128 : Shape := ⟨2, ![1000, 128]⟩
abbrev S50x128 : Shape := ⟨2, ![50, 128]⟩
abbrev S50 : Shape := ⟨1, ![50]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1000x128 : S_.BroadcastsInDim S1000x128 (![] : Fin 0 → Fin S1000x128.rank)
  reducesTo_S1000x128_S_d0_1 : S1000x128.ReducesTo [0, 1] S_
  bcast_S_S50x128 : S_.BroadcastsInDim S50x128 (![] : Fin 0 → Fin S50x128.rank)
  reducesTo_S50x128_S_d0_1 : S50x128.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_v30 : IVec S_ 1) (main_v32 : IVec S50 1) (main_c_12 : IVec S_ 1) : IVec S_ 1 :=
  let main_v33 : IVec S_ 1 := (fun x v => Host.reduce IntOp.andi x v reducesTo_S50_S_d0 h_S_) main_v32 main_c_12
  let main_v34 : IVec S_ 1 := andi main_v30 main_v33
  main_v34

def fn_part1 {F : FTy → Type} [FloatOps F] (main_arg4 : FVec F S50x128 .f32) (main_arg5 : FVec F S50 .f32) (main_v15 : IVec S_ 1) (main_v16 : FVec F S100000x128 .f32) : IVec S_ 1 :=
  let main_cst_5 : FVec F S_ .f32 := constant S_ .f32 0x7F800000#32
  let main_v17 : FVec F S100000x128 .f32 := broadcastInDim S100000x128 ![] bcast_S_S100000x128 main_cst_5
  let main_v18 : IVec S100000x128 1 := cmpf .olt main_v16 main_v17
  let main_c_6 : IVec S_ 1 := constantI S_ 1 1#1
  let main_v19 : IVec S_ 1 := (fun x v => Host.reduce IntOp.andi x v reducesTo_S100000x128_S_d0_1 h_S_) main_v18 main_c_6
  let main_v20 : IVec S_ 1 := andi main_v15 main_v19
  let main_v21 : FVec F S50x128 .f32 := Host.absf main_arg4
  let main_cst_7 : FVec F S_ .f32 := constant S_ .f32 0x7F800000#32
  let main_v22 : FVec F S50x128 .f32 := broadcastInDim S50x128 ![] bcast_S_S50x128 main_cst_7
  let main_v23 : IVec S50x128 1 := cmpf .olt main_v21 main_v22
  let main_c_8 : IVec S_ 1 := constantI S_ 1 1#1
  let main_v24 : IVec S_ 1 := (fun x v => Host.reduce IntOp.andi x v reducesTo_S50x128_S_d0_1 h_S_) main_v23 main_c_8
  let main_v25 : IVec S_ 1 := andi main_v20 main_v24
  let main_v26 : FVec F S50 .f32 := Host.absf main_arg5
  let main_cst_9 : FVec F S_ .f32 := constant S_ .f32 0x7F800000#32
  let main_v27 : FVec F S50 .f32 := broadcastInDim S50 ![] bcast_S_S50 main_cst_9
  let main_v28 : IVec S50 1 := cmpf .olt main_v26 main_v27
  let main_c_10 : IVec S_ 1 := constantI S_ 1 1#1
  let main_v29 : IVec S_ 1 := (fun x v => Host.reduce IntOp.andi x v reducesTo_S50_S_d0 h_S_) main_v28 main_c_10
  let main_v30 : IVec S_ 1 := andi main_v25 main_v29
  let main_cst_11 : FVec F S_ .f32 := constant S_ .f32 0x00000000#32
  let main_v31 : FVec F S50 .f32 := broadcastInDim S50 ![] bcast_S_S50 main_cst_11
  let main_v32 : IVec S50 1 := cmpf .une main_arg5 main_v31
  let main_c_12 : IVec S_ 1 := constantI S_ 1 1#1
  fn_part2 (F := F) main_v30 main_v32 main_c_12

def fn {F : FTy → Type} [FloatOps F] (main_arg0 : IVec S8192 32) (main_arg1 : FVec F S100000x128 .f32) (main_arg2 : FVec F S1000x128 .f32) (main_arg3 : FVec F S100000x128 .f32) (main_arg4 : FVec F S50x128 .f32) (main_arg5 : FVec F S50 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 100000#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S1000x128 .f32 := Host.absf main_arg2
  let main_cst_3 : FVec F S_ .f32 := constant S_ .f32 0x7F800000#32
  let main_v12 : FVec F S1000x128 .f32 := broadcastInDim S1000x128 ![] bcast_S_S1000x128 main_cst_3
  let main_v13 : IVec S1000x128 1 := cmpf .olt main_v11 main_v12
  let main_c_4 : IVec S_ 1 := constantI S_ 1 1#1
  let main_v14 : IVec S_ 1 := (fun x v => Host.reduce IntOp.andi x v reducesTo_S1000x128_S_d0_1 h_S_) main_v13 main_c_4
  let main_v15 : IVec S_ 1 := andi main_v10 main_v14
  let main_v16 : FVec F S100000x128 .f32 := Host.absf main_arg3
  fn_part1 (F := F) main_arg4 main_arg5 main_v15 main_v16
-- ==== Kernel.lean ====
abbrev S8192 : Shape := ⟨1, ![8192]⟩
abbrev S100000x128 : Shape := ⟨2, ![100000, 128]⟩
abbrev S1000x128 : Shape := ⟨2, ![1000, 128]⟩
abbrev S50x128 : Shape := ⟨2, ![50, 128]⟩
abbrev S50 : Shape := ⟨1, ![50]⟩
abbrev S64x128 : Shape := ⟨2, ![64, 128]⟩
abbrev S32x128 : Shape := ⟨2, ![32, 128]⟩
abbrev S4096x128 : Shape := ⟨2, ![4096, 128]⟩
abbrev S1x128 : Shape := ⟨2, ![1, 128]⟩
abbrev S128x128 : Shape := ⟨2, ![128, 128]⟩
abbrev S_ : Shape := ⟨0, ![]⟩
abbrev S128 : Shape := ⟨1, ![128]⟩
abbrev S50x1 : Shape := ⟨2, ![50, 1]⟩
abbrev S50x20 : Shape := ⟨2, ![50, 20]⟩
abbrev S1000 : Shape := ⟨1, ![1000]⟩
abbrev S1000x1 : Shape := ⟨2, ![1000, 1]⟩
abbrev S1x1000 : Shape := ⟨2, ![1, 1000]⟩
abbrev S50x1000 : Shape := ⟨2, ![50, 1000]⟩
abbrev S1000x8192 : Shape := ⟨2, ![1000, 8192]⟩
abbrev S1024x128 : Shape := ⟨2, ![1024, 128]⟩
abbrev S1000x1024 : Shape := ⟨2, ![1000, 1024]⟩
abbrev S50x1024 : Shape := ⟨2, ![50, 1024]⟩
abbrev S1024x50 : Shape := ⟨2, ![1024, 50]⟩
abbrev S50x50 : Shape := ⟨2, ![50, 50]⟩
abbrev S8192x1000 : Shape := ⟨2, ![8192, 1000]⟩

abbrev nBuf : Table → Nat
  | .hbm => 57
  | .local .tc .vmem => 23
  | .local .scVector .vmem => 6
  | _ => 0

abbrev bufTy : (tb : Table) → Fin (nBuf tb) → BufTy
  | .hbm, ⟨0, _⟩ => ⟨S8192, .i32⟩
  | .hbm, ⟨1, _⟩ => ⟨S100000x128, .f32⟩
  | .hbm, ⟨2, _⟩ => ⟨S1000x128, .f32⟩
  | .hbm, ⟨3, _⟩ => ⟨S100000x128, .f32⟩
  | .hbm, ⟨4, _⟩ => ⟨S50x128, .f32⟩
  | .hbm, ⟨5, _⟩ => ⟨S50, .f32⟩
  | .hbm, ⟨6, _⟩ => ⟨S64x128, .i32⟩
  | .hbm, ⟨7, _⟩ => ⟨S32x128, .i32⟩
  | .hbm, ⟨8, _⟩ => ⟨S4096x128, .f32⟩
  | .hbm, ⟨9, _⟩ => ⟨S4096x128, .f32⟩
  | .hbm, ⟨10, _⟩ => ⟨S32x128, .i32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S50, .f32⟩
  | .hbm, ⟨15, _⟩ => ⟨S50, .f32⟩
  | .hbm, ⟨16, _⟩ => ⟨S50x1, .f32⟩
  | .hbm, ⟨17, _⟩ => ⟨S50x20, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x128, .f32⟩
  | .hbm, ⟨24, _⟩ => ⟨S1000x128, .f32⟩
  | .hbm, ⟨25, _⟩ => ⟨S1000x128, .bf16⟩
  | .hbm, ⟨26, _⟩ => ⟨S50x128, .bf16⟩
  | .hbm, ⟨27, _⟩ => ⟨S1000, .i32⟩
  | .hbm, ⟨28, _⟩ => ⟨S1x1000, .i32⟩
  | .hbm, ⟨29, _⟩ => ⟨S_, .i32⟩
  | .hbm, ⟨30, _⟩ => ⟨S_, .i32⟩
  | .hbm, ⟨31, _⟩ => ⟨S1x1000, .i32⟩
  | .hbm, ⟨32, _⟩ => ⟨S1x1000, .i32⟩
  | .hbm, ⟨33, _⟩ => ⟨S1x1000, .i32⟩
  | .hbm, ⟨34, _⟩ => ⟨S_, .i32⟩
  | .hbm, ⟨35, _⟩ => ⟨S1x1000, .i32⟩
  | .hbm, ⟨36, _⟩ => ⟨S1x1000, .i1⟩
  | .hbm, ⟨37, _⟩ => ⟨S1x1000, .i32⟩
  | .hbm, ⟨38, _⟩ => ⟨S1x1000, .i32⟩
  | .hbm, ⟨39, _⟩ => ⟨S_, .i32⟩
  | .hbm, ⟨40, _⟩ => ⟨S1x1000, .i32⟩
  | .hbm, ⟨41, _⟩ => ⟨S1x1000, .i1⟩
  | .hbm, ⟨42, _⟩ => ⟨S1x1000, .i1⟩
  | .hbm, ⟨43, _⟩ => ⟨S_, .i32⟩
  | .hbm, ⟨44, _⟩ => ⟨S1x1000, .i32⟩
  | .hbm, ⟨45, _⟩ => ⟨S1x1000, .i32⟩
  | .hbm, ⟨46, _⟩ => ⟨S1x1000, .i32⟩
  | .hbm, ⟨47, _⟩ => ⟨S50, .i32⟩
  | .hbm, ⟨48, _⟩ => ⟨S50x1, .i32⟩
  | .hbm, ⟨49, _⟩ => ⟨S50x1000, .i32⟩
  | .hbm, ⟨50, _⟩ => ⟨S50x1000, .i32⟩
  | .hbm, ⟨51, _⟩ => ⟨S50x1000, .i1⟩
  | .hbm, ⟨52, _⟩ => ⟨S50x1000, .bf16⟩
  | .hbm, ⟨53, _⟩ => ⟨S1000x8192, .f32⟩
  | .hbm, ⟨54, _⟩ => ⟨S50x1, .f32⟩
  | .hbm, ⟨55, _⟩ => ⟨S1000x8192, .f32⟩
  | .hbm, ⟨56, _⟩ => ⟨S8192x1000, .f32⟩
  | .local .tc .vmem, ⟨0, _⟩ => ⟨S50x1, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1000x128, .bf16⟩
  | .local .tc .vmem, ⟨6, _⟩ => ⟨S50x128, .bf16⟩
  | .local .tc .vmem, ⟨7, _⟩ => ⟨S50x1000, .bf16⟩
  | .local .tc .vmem, ⟨8, _⟩ => ⟨S1000x1024, .f32⟩
  | .local .tc .vmem, ⟨9, _⟩ => ⟨S1000x1024, .f32⟩
  | .local .tc .vmem, ⟨10, _⟩ => ⟨S50x1, .f32⟩
  | .local .tc .vmem, ⟨11, _⟩ => ⟨S50x1, .f32⟩
  | .local .tc .vmem, ⟨12, _⟩ => ⟨S50x1, .f32⟩
  | .local .tc .vmem, ⟨13, _⟩ => ⟨S1024x128, .f32⟩
  | .local .tc .vmem, ⟨14, _⟩ => ⟨S1024x128, .f32⟩
  | .local .tc .vmem, ⟨15, _⟩ => ⟨S1024x128, .f32⟩
  | .local .tc .vmem, ⟨16, _⟩ => ⟨S1024x128, .f32⟩
  | .local .tc .vmem, ⟨17, _⟩ => ⟨S1000x128, .bf16⟩
  | .local .tc .vmem, ⟨18, _⟩ => ⟨S50x128, .bf16⟩
  | .local .tc .vmem, ⟨19, _⟩ => ⟨S50x1000, .bf16⟩
  | .local .tc .vmem, ⟨20, _⟩ => ⟨S50x1, .f32⟩
  | .local .tc .vmem, ⟨21, _⟩ => ⟨S1000x1024, .f32⟩
  | .local .tc .vmem, ⟨22, _⟩ => ⟨S1000x1024, .f32⟩
  | .local .scVector .vmem, ⟨0, _⟩ => ⟨S1x128, .i32⟩
  | .local .scVector .vmem, ⟨1, _⟩ => ⟨S128x128, .f32⟩
  | .local .scVector .vmem, ⟨2, _⟩ => ⟨S128x128, .f32⟩
  | .local .scVector .vmem, ⟨3, _⟩ => ⟨S1x128, .i32⟩
  | .local .scVector .vmem, ⟨4, _⟩ => ⟨S128x128, .f32⟩
  | .local .scVector .vmem, ⟨5, _⟩ => ⟨S128x128, .f32⟩
  | _, _ => ⟨S8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v27 : Ref sig .tc := ⟨.hbm, 55, rfl⟩
abbrev main_v28 : Ref sig .tc := ⟨.hbm, 56, rfl⟩
abbrev main_v1_scv : Ref sig .scVector := ⟨.hbm, 7, rfl⟩
abbrev main_arg1_scv : Ref sig .scVector := ⟨.hbm, 1, rfl⟩
abbrev main_arg3_scv : Ref sig .scVector := ⟨.hbm, 3, rfl⟩
abbrev main_v2_0_scv : Ref sig .scVector := ⟨.hbm, 8, rfl⟩
abbrev main_v2_1_scv : Ref sig .scVector := ⟨.hbm, 9, rfl⟩
abbrev main_v3_scv : Ref sig .scVector := ⟨.hbm, 10, rfl⟩
abbrev main_v4_0_scv : Ref sig .scVector := ⟨.hbm, 11, rfl⟩
abbrev main_v4_1_scv : Ref sig .scVector := ⟨.hbm, 12, rfl⟩
abbrev cc2_stg0_0 : Ref sig .tc := ⟨.vmem, 0, rfl⟩
abbrev cc2_stg1_0 : Ref sig .tc := ⟨.vmem, 1, rfl⟩
abbrev cc2_stg1_1 : Ref sig .tc := ⟨.vmem, 2, rfl⟩
abbrev cc2_stg2_0 : Ref sig .tc := ⟨.vmem, 3, rfl⟩
abbrev cc2_stg2_1 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg6_1 : Ref sig .tc := ⟨.vmem, 9, rfl⟩
abbrev cc2_stg7_0 : Ref sig .tc := ⟨.vmem, 10, rfl⟩
abbrev cc2_scratch0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg7_1 : Ref sig .tc := ⟨.vmem, 22, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_15_r1 : BitVec 32 := 0#32
  ![v2.toNat, 0]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  ![v1.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_15_r1 : BitVec 32 := 0#32
  ![v2.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S50x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1000x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S50x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S50x1000 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S50x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

abbrev stage3_0 : Fin 1 → Memref sig .tc .vmem S50x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1000x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S50x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S50x1000 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S50x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8192 : Shape := ⟨1, ![8192]⟩
abbrev S100000x128 : Shape := ⟨2, ![100000, 128]⟩
abbrev S1000x128 : Shape := ⟨2, ![1000, 128]⟩
abbrev S50x128 : Shape := ⟨2, ![50, 128]⟩
abbrev S50 : Shape := ⟨1, ![50]⟩
abbrev S_ : Shape := ⟨0, ![]⟩
abbrev S8192x1 : Shape := ⟨2, ![8192, 1]⟩
abbrev S8192x128 : Shape := ⟨2, ![8192, 128]⟩
abbrev S128x1000 : Shape := ⟨2, ![128, 1000]⟩
abbrev S8192x1000 : Shape := ⟨2, ![8192, 1000]⟩
abbrev S128x50 : Shape := ⟨2, ![128, 50]⟩
abbrev S8192x50 : Shape := ⟨2, ![8192, 50]⟩
abbrev S1000 : Shape := ⟨1, ![1000]⟩
abbrev S1000x1 : Shape := ⟨2, ![1000, 1]⟩
abbrev S1x1000 : Shape := ⟨2, ![1, 1000]⟩
abbrev S1000x8192 : Shape := ⟨2, ![1000, 8192]⟩
abbrev S50x20x8192 : Shape := ⟨3, ![50, 20, 8192]⟩
abbrev S50x8192 : Shape := ⟨2, ![50, 8192]⟩
abbrev S50x1x8192 : Shape := ⟨3, ![50, 1, 8192]⟩
abbrev S50x1 : Shape := ⟨2, ![50, 1]⟩
abbrev S50x1000 : Shape := ⟨2, ![50, 1000]⟩

abbrev nBuf : Space → Nat
  | .hbm => 138
  | .vmem => 0
  | .smem => 0
  | _ => 0

abbrev hbmTy0_0 (i : Nat) : BufTy := match i % 128 with
  | 0 => ⟨S8192, .i32⟩
  | 1 => ⟨S100000x128, .f32⟩
  | 2 => ⟨S1000x128, .f32⟩
  | 3 => ⟨S100000x128, .f32⟩
  | 4 => ⟨S50x128, .f32⟩
  | 5 => ⟨S50, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x128, .f32⟩
  | 15 => ⟨S128x1000, .f32⟩
  | 16 => ⟨S8192x1000, .f32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S8192x128, .f32⟩
  | 26 => ⟨S128x50, .f32⟩
  | 27 => ⟨S8192x50, .f32⟩
  | 28 => ⟨S1000, .i32⟩
  | 29 => ⟨S_, .i32⟩
  | 30 => ⟨S_, .i32⟩
  | 31 => ⟨S1000, .i32⟩
  | 32 => ⟨S1000, .i32⟩
  | 33 => ⟨S1000, .i32⟩
  | 34 => ⟨S_, .i32⟩
  | 35 => ⟨S1000, .i32⟩
  | 36 => ⟨S1000, .i1⟩
  | 37 => ⟨S1000, .i32⟩
  | 38 => ⟨S1000, .i32⟩
  | 39 => ⟨S_, .i32⟩
  | 40 => ⟨S1000, .i32⟩
  | 41 => ⟨S1000, .i1⟩
  | 42 => ⟨S1000, .i1⟩
  | 43 => ⟨S_, .i32⟩
  | 44 => ⟨S1000, .i32⟩
  | 45 => ⟨S1000, .i32⟩
  | 46 => ⟨S1000, .i32⟩
  | 47 => ⟨S_, .i32⟩
  | 48 => ⟨S1000, .i32⟩
  | 49 => ⟨S1000, .i1⟩
  | 50 => ⟨S_, .i32⟩
  | 51 => ⟨S1000, .i32⟩
  | 52 => ⟨S1000, .i32⟩
  | 53 => ⟨S1000, .i32⟩
  | 54 => ⟨S1000x1, .i32⟩
  | 55 => ⟨S1000, .f32⟩
  | 56 => ⟨S1x1000, .f32⟩
  | 57 => ⟨S8192x1000, .f32⟩
  | 58 => ⟨S8192x1000, .f32⟩
  | 59 => ⟨S1000x8192, .f32⟩
  | 60 => ⟨S50x20x8192, .f32⟩
  | 61 => ⟨S_, .f32⟩
  | 62 => ⟨S50x8192, .f32⟩
  | 63 => ⟨S50x8192, .f32⟩
  | 64 => ⟨S_, .f32⟩
  | 65 => ⟨S50x8192, .f32⟩
  | 66 => ⟨S50x8192, .i1⟩
  | 67 => ⟨S_, .f32⟩
  | 68 => ⟨S_, .f32⟩
  | 69 => ⟨S50x8192, .f32⟩
  | 70 => ⟨S50x8192, .f32⟩
  | 71 => ⟨S50x1x8192, .f32⟩
  | 72 => ⟨S50x20x8192, .f32⟩
  | 73 => ⟨S50x20x8192, .f32⟩
  | 74 => ⟨S50x20x8192, .f32⟩
  | 75 => ⟨S_, .f32⟩
  | 76 => ⟨S50x8192, .f32⟩
  | 77 => ⟨S50x8192, .f32⟩
  | 78 => ⟨S50x8192, .f32⟩
  | 79 => ⟨S_, .i32⟩
  | 80 => ⟨S1000, .i32⟩
  | 81 => ⟨S1000, .i1⟩
  | 82 => ⟨S_, .i32⟩
  | 83 => ⟨S1000, .i32⟩
  | 84 => ⟨S1000, .i32⟩
  | 85 => ⟨S1000, .i32⟩
  | 86 => ⟨S1000x1, .i32⟩
  | 87 => ⟨S1000x8192, .f32⟩
  | 88 => ⟨S8192x1000, .f32⟩
  | 89 => ⟨S8192x1000, .f32⟩
  | 90 => ⟨S_, .i32⟩
  | 91 => ⟨S1000, .i32⟩
  | 92 => ⟨S1000, .i1⟩
  | 93 => ⟨S_, .i32⟩
  | 94 => ⟨S1000, .i32⟩
  | 95 => ⟨S1000, .i32⟩
  | 96 => ⟨S1000, .i32⟩
  | 97 => ⟨S1000x1, .i32⟩
  | 98 => ⟨S8192x1000, .f32⟩
  | 99 => ⟨S1x1000, .f32⟩
  | 100 => ⟨S8192x1000, .f32⟩
  | 101 => ⟨S8192x1000, .f32⟩
  | 102 => ⟨S8192x1000, .f32⟩
  | 103 => ⟨S50, .i32⟩
  | 104 => ⟨S_, .i32⟩
  | 105 => ⟨S50, .i32⟩
  | 106 => ⟨S50, .i32⟩
  | 107 => ⟨S_, .i32⟩
  | 108 => ⟨S50, .i32⟩
  | 109 => ⟨S50, .i1⟩
  | 110 => ⟨S_, .i32⟩
  | 111 => ⟨S50, .i32⟩
  | 112 => ⟨S50, .i32⟩
  | 113 => ⟨S50, .i32⟩
  | 114 => ⟨S50x1, .i32⟩
  | 115 => ⟨S50x1000, .f32⟩
  | 116 => ⟨S_, .f32⟩
  | 117 => ⟨S1000, .f32⟩
  | 118 => ⟨S1x1000, .f32⟩
  | 119 => ⟨S1x1000, .f32⟩
  | 120 => ⟨S_, .f32⟩
  | 121 => ⟨S1x1000, .f32⟩
  | 122 => ⟨S1x1000, .i1⟩
  | 123 => ⟨S_, .f32⟩
  | 124 => ⟨S_, .f32⟩
  | 125 => ⟨S1x1000, .f32⟩
  | 126 => ⟨S1x1000, .f32⟩
  | 127 => ⟨S50x1000, .f32⟩
  | _ => ⟨S8192, .i32⟩

abbrev hbmTy0_1 (i : Nat) : BufTy := match i % 128 with
  | 0 => ⟨S50x1000, .f32⟩
  | 1 => ⟨S50x1000, .f32⟩
  | 2 => ⟨S_, .f32⟩
  | 3 => ⟨S1000, .f32⟩
  | 4 => ⟨S1x1000, .f32⟩
  | 5 => ⟨S1x1000, .f32⟩
  | 6 => ⟨S1x1000, .f32⟩
  | 7 => ⟨S8192x1000, .f32⟩
  | 8 => ⟨S8192x1000, .f32⟩
  | 9 => ⟨S8192x1000, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_c_12 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_13 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_c_15 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_17 : Ref sig .tc := ⟨.hbm, 120, rfl⟩
abbrev main_v77 : Ref sig .tc := ⟨.hbm, 121, rfl⟩
abbrev main_v78 : Ref sig .tc := ⟨.hbm, 122, rfl⟩
abbrev main_cst_18 : Ref sig .tc := ⟨.hbm, 123, rfl⟩
abbrev main_call2_v0 : Ref sig .tc := ⟨.hbm, 124, rfl⟩
abbrev main_call2_v1 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩

abbrev nD : Nat := 1
abbrev τ : Topo := Topo.v7x

variable {F : FTy → Type} [FloatOps F]
-- ==== Proof.ScBase.lean ====
/-
  The program as a launch of two SparseCore calls and two TensorCore pipelines: the configuration of the calls, the
  ghost algebra (the calls' handshakes, the pipelines' staging cells, the transfers' counters), and the function a
  gather computes: row `n` of a table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Pointwise
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelines' program. -/
abbrev ΛP : Labels := Pipeline.Sig Λ₀ (Fin 2) fun p => (pcfgs (F := F) p).Adm
/-- The two SparseCore calls. -/
abbrev K : SparseCore.Cfg τ sig (ΛP (F := F)) 2 := sc (F := F)
/-- The pipelines' body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the calls' semaphores and of the buffers the subcores own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

/-- The handshakes' rounds, the pipelines' staging rounds, and the two beside the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

/-- The handshakes' component; -/
abbrev EH : Emb UH (MT nD τ sig (HIx 2) (Elt F) ℕ UU ℕ) := embL
/-- and the pipelines'. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP; infer_instance

/-! ## Rows of a table -/

/-- Entry `j` of row `n` of the table `T` (the number taken within the table). -/
def rowAt {α : Type} (T : S100000x128.Idx → α) (n : ℕ) (j : Fin 128) : α :=
  T (ix2 ⟨n % 100000, Nat.mod_lt _ (by decide)⟩ j)

/-- The rows that the 32 × 128 numbers `ix` name, in row-major order. -/
def gath {α : Type} (T : S100000x128.Idx → α) (ix : S32x128.Idx → BitVec 32) : S4096x128.Idx → α :=
  fun j => rowAt T (ix (ix2 ⟨(j 0).val / 128, by have : (j 0).val < 4096 := (j 0).isLt; omega⟩ ⟨(j 0).val % 128, Nat.mod_lt _ (by decide)⟩)).toNat (j 1)

end Cert.Proof.Sc

end
-- ==== Proof.ScTile.lean ====
/-
  One task of a SparseCore call: it fetches its row of numbers, gathers the rows they name from both tables, and writes
  them to its blocks of the two results. Stated once over the buffers and semaphores a call hands its tasks; both calls'
  tasks are instances.
-/
module

public import proofs.«01_k».proof.Proof.ScBase
public import Idealize.ShloMosaic.Lib.VecWindow

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV (L : grid0.Coords) : Fin τ.nSC := (L 0).castLE hcore0
abbrev jV (L : grid0.Coords) : Fin τ.nSub := (L 1).castLE hsub0
/-- The vector subcore the task of coordinates `L` runs on. -/
abbrev thrV (d : Dev nD) (L : grid0.Coords) : Thread nD τ := V d (cV L) (jV L)

section Body

variable (d : Dev nD) (L : grid0.Coords)
variable (arg2 : Memref sig .scVector .hbm S32x128 .i32) (harg2 : arg2.IsWhole) (arg3 : Memref sig .scVector .hbm S100000x128 .f32) (harg3 : arg3.IsWhole)
  (arg4 : Memref sig .scVector .hbm S100000x128 .f32) (harg4 : arg4.IsWhole) (arg5 : Memref sig .scVector .hbm S4096x128 .f32) (harg5 : arg5.IsWhole)
  (arg6 : Memref sig .scVector .hbm S4096x128 .f32) (harg6 : arg6.IsWhole) (arg7 : Memref sig .scVector .vmem S1x128 .i32) (harg7 : arg7.IsWhole)
  (arg8 : Memref sig .scVector .vmem S128x128 .f32) (harg8 : arg8.IsWhole) (arg9 : Memref sig .scVector .vmem S128x128 .f32) (harg9 : arg9.IsWhole)
  (arg10 arg11 r0 r1 r2 : DmaSems sig S_)

/-- The task's row of the numbers, and its blocks of the results, as the task addresses them. -/
abbrev rowK : Memref sig .scVector .hbm S1x128 .i32 := arg2.slice (Rect.unit (s := S32x128) (k0_off1 L) S1x128.size (k0_off1_inb L)) (fun _ => rfl)
abbrev blkK (a : Memref sig .scVector .hbm S4096x128 .f32) : Memref sig .scVector .hbm S128x128 .f32 :=
  a.slice (Rect.unit (s := S4096x128) (k0_off2 L) S128x128.size (k0_off2_inb L)) (fun _ => rfl)
/-- The whole of a table as the task slices it, and the list of numbers in the task's own memory. -/
abbrev tabK (a : Memref sig .scVector .hbm S100000x128 .f32) : Memref sig .scVector .hbm S100000x128 .f32 :=
  a.slice (Rect.unit (s := S100000x128) ![0, 0] S100000x128.size inb_S100000x128_S100000x128_0_0) (fun _ => rfl)
abbrev lstK : Memref sig .scVector .vmem S128 .i32 :=
  (arg7.slice (Rect.unit (s := S1x128) ![0, 0] S1x128.size inb_S1x128_S1x128_0_0) (fun _ => rfl)).squeeze S128 squeezes_S1x128_S128

/-- The list a gather reads is the row of numbers the fetch landed. -/
theorem list_read (f7 : arg7.view.ty.Contents (Elt F)) (w : S1x128.Idx → Elt F .i32) (x : S128.Idx) :
    (lstK arg7).view.read (Elt F) (arg7.view.write (Elt F) f7 w Finset.univ) x = w (ix2 0 (x 0)) := by
  have h := congrFun (Memref.read_squeeze_full (Val := Elt F) arg7 (off := ![0, 0]) inb_S1x128_S1x128_0_0 squeezes_S1x128_S128 (arg7.view.write (Elt F) f7 w Finset.univ)) x
  refine h.trans ?_
  rw [View.read_write_univ]
  congr 1
  refine Shape.reshapeEquiv_eq_of_rowMajor _ ?_
  rw [Shape.rowMajor_val_two, Shape.rowMajor_val_one]
  show 0 * 128 + (x 0).val = (x 0).val
  omega

/-- What a gather over the list delivers: row `r` is the table's row that number `r` of the list names. -/
theorem payload_eq (T : S100000x128.Idx → Elt F .f32) (ls : S128.Idx → Elt F .i32)
    (hin : ∀ x, (ls x).toNat < S100000x128.size gathers_S100000x128_S128x128.axis) (x : S128x128.Idx) :
    SparseCore.gatherPayload gathers_S100000x128_S128x128 T (SparseCore.rows ls rfl hin) x = rowAt T (ls (ix1 (x 0))).toNat (x 1) := by
  unfold SparseCore.gatherPayload rowAt
  congr 1
  funext a
  have hk : S128.rowMajor.symm (Fin.cast rfl (x 0)) = ix1 (x 0) := by
    refine S128.rowMajor.symm_apply_eq.mpr (Fin.ext ?_)
    exact (Shape.rowMajor_val_one (ix1 (x 0))).symm
  match a with
  | ⟨0, _⟩ =>
    refine (Shape.Gathers.idx_axis gathers_S100000x128_S128x128 _ x).trans (Fin.ext ?_)
    have hl : (ls (ix1 (x 0))).toNat < 100000 := hin (ix1 (x 0))
    refine Eq.trans (congrArg (fun k => (ls k).toNat) hk) ?_
    exact (Nat.mod_eq_of_lt hl).symm
  | ⟨1, _⟩ =>
    apply Fin.ext
    exact Shape.Gathers.idx_of_ne gathers_S100000x128_S128x128 _ x ⟨1, by decide⟩ (by decide)

theorem axis_size : S100000x128.size gathers_S100000x128_S128x128.axis = 100000 := rfl
theorem numel_pos : 0 < S128x128.numel := by decide
theorem credit_sum (a : Memref sig .scVector .vmem S128x128 .f32) (h : S100000x128.Gathers 0 S128x128) :
    ∑ j, (a.slice (S128x128.rowRect h.axis' j) (S128x128.stride_rowRect h.axis' j)).view.dmaCredit = a.view.dmaCredit :=
  SparseCore.sum_rowCredit_eq_dmaCredit a _ fun _ => rfl

set_option maxHeartbeats 4000000 in
set_option maxRecDepth 16384 in
/-- One task, from its row of numbers, a share of each table, its blocks of the results and its own memory: it leaves in each
    block the rows its numbers name. -/
theorem tile_run (qa qb : PosShare TreeShare)
    (fi : Buf (Elt F) (arg2.view.loc (thrV d L))) (fa : Buf (Elt F) (arg3.view.loc (thrV d L))) (fb : Buf (Elt F) (arg4.view.loc (thrV d L)))
    (g5 : Buf (Elt F) (arg5.view.loc (thrV d L))) (g6 : Buf (Elt F) (arg6.view.loc (thrV d L)))
    (f7 : Buf (Elt F) (arg7.view.loc (thrV d L))) (f8 : Buf (Elt F) (arg8.view.loc (thrV d L))) (f9 : Buf (Elt F) (arg9.view.loc (thrV d L)))
    (hlt : ∀ x, ((rowK L arg2).view.read (Elt F) fi x).toNat < 100000)
    (O : CellTallies nD τ sig (HIx 2)) (W : Waits sig (HIx 2)) (hO : ∀ g, O g none = 0) :
    (iprop(levAts (K (F := F)).L (K (F := F)).lev
        ∗ ((rowK L arg2).view.loc (thrV d L) ↦[(rowK L arg2).view.set]{fullShare} fi)
        ∗ (arg3.view.loc (thrV d L) ↦{qa} fa) ∗ (arg4.view.loc (thrV d L) ↦{qb} fb)
        ∗ ((blkK L arg5).view.loc (thrV d L) ↦[(blkK L arg5).view.set]{fullShare} g5)
        ∗ ((blkK L arg6).view.loc (thrV d L) ↦[(blkK L arg6).view.set]{fullShare} g6)
        ∗ (arg7.view.loc (thrV d L) ↦{fullShare} f7) ∗ (arg8.view.loc (thrV d L) ↦{fullShare} f8) ∗ (arg9.view.loc (thrV d L) ↦{fullShare} f9)
        ∗ semVal (thrV d L, .dma arg10.sem) 0 ∗ semVal (thrV d L, .dma arg11.sem) 0
        ∗ semVal (thrV d L, .dma r0.sem) 0 ∗ semVal (thrV d L, .dma r1.sem) 0 ∗ semVal (thrV d L, .dma r2.sem) 0
        ∗ owes (thrV d L) O W) : sProp 𝕄)
      ⊢ wp frame (wpE (defs₀ (F := F)) 𝒱₀ (thrV d L) none) Set.univ
          (cc0__sc_gather_body L arg2 harg2 arg3 harg3 arg4 harg4 arg5 harg5 arg6 harg6 arg7 harg7 arg8 harg8 arg9 harg9 arg10 arg11 r0 r1 r2)
          fun _ => iprop(((rowK L arg2).view.loc (thrV d L) ↦[(rowK L arg2).view.set]{fullShare} fi)
            ∗ (arg3.view.loc (thrV d L) ↦{qa} fa) ∗ (arg4.view.loc (thrV d L) ↦{qb} fb)
            ∗ (∃ p : S128x128.Idx → Elt F .f32, ⌜∀ x, p x = rowAt ((tabK arg3).view.read (Elt F) fa) ((rowK L arg2).view.read (Elt F) fi (ix2 0 (x 0))).toNat (x 1)⌝
                ∗ ((blkK L arg5).view.loc (thrV d L) ↦[(blkK L arg5).view.set]{fullShare} (blkK L arg5).view.write (Elt F) g5 p Finset.univ))
            ∗ (∃ p : S128x128.Idx → Elt F .f32, ⌜∀ x, p x = rowAt ((tabK arg4).view.read (Elt F) fb) ((rowK L arg2).view.read (Elt F) fi (ix2 0 (x 0))).toNat (x 1)⌝
                ∗ ((blkK L arg6).view.loc (thrV d L) ↦[(blkK L arg6).view.set]{fullShare} (blkK L arg6).view.write (Elt F) g6 p Finset.univ))
            ∗ (∃ f, arg7.view.loc (thrV d L) ↦{fullShare} f) ∗ (∃ f, arg8.view.loc (thrV d L) ↦{fullShare} f) ∗ (∃ f, arg9.view.loc (thrV d L) ↦{fullShare} f)
            ∗ semVal (thrV d L, .dma arg10.sem) 0 ∗ semVal (thrV d L, .dma arg11.sem) 0
            ∗ semVal (thrV d L, .dma r0.sem) 0 ∗ semVal (thrV d L, .dma r1.sem) 0 ∗ semVal (thrV d L, .dma r2.sem) 0
            ∗ ∃ W', ⌜∀ p ∈ W', p ∈ W ∨ p.2 = none⌝ ∗ owes (thrV d L) O W') := by
  rw [cc0__sc_gather_body_eq_skeleton]; unfold cc0__sc_gather_body_skel; rw [k0_part1_eq_skeleton]; unfold k0_part1_skel
  iintro ⟨#Hlv, Hi, Ha, Hb, H5, H6, H7, H8, H9, Hs10, Hs11, Hs0, Hs1, Hs2, HO⟩
  ihave Hmw := (show levAts (K (F := F)).L (K (F := F)).lev ⊢ Transfers.MayWaits (thrV d L) (default : HIx 2) O from
    (K (F := F)).mayWaits_none (thr := thrV d L) hO) $$ Hlv
  sl_exec
  have hL : ∀ x, (lstK arg7).view.read (Elt F) (arg7.view.write (Elt F) f7 (tile_run.sl.dma0 d L arg2 fi) Finset.univ) x
      = (rowK L arg2).view.read (Elt F) fi (ix2 0 (x 0)) := fun x => list_read arg7 f7 _ x
  have hin : ∀ x, ((lstK arg7).view.read (Elt F) (arg7.view.write (Elt F) f7 (tile_run.sl.dma0 d L arg2 fi) Finset.univ) x).toNat
      < S100000x128.size gathers_S100000x128_S128x128.axis := fun x => by rw [hL, axis_size]; exact hlt _
  have hpa := fun x => (payload_eq ((tabK arg3).view.read (Elt F) fa) _ hin x).trans (by rw [hL])
  have hpb := fun x => (payload_eq ((tabK arg4).view.read (Elt F) fb) _ hin x).trans (by rw [hL])
  have h8 : arg8.view.set = Finset.univ := harg8.set_eq_univ
  have h9 : arg9.view.set = Finset.univ := harg9.set_eq_univ
  -- the list in two shares, one to each gather
  ihave H7 := (pointsTo_split_subset (q := fullShare) (S := Finset.univ) (Finset.subset_univ (lstK arg7).view.set)).1 $$ H7
  icases H7 with ⟨H7, H7r⟩
  ihave H7 := (pointsTo_share (PosShare.mem_left_op_right fullShare)).1 $$ H7
  icases H7 with ⟨H7a, H7b⟩
  ihave Ha := (pointsTo_split_subset (q := qa) (f := fa) (S := Finset.univ) (Finset.subset_univ (tabK arg3).view.set)).1 $$ Ha
  icases Ha with ⟨Ha, Har⟩
  ihave Hb := (pointsTo_split_subset (q := qb) (f := fb) (S := Finset.univ) (Finset.subset_univ (tabK arg4).view.set)).1 $$ Hb
  icases Hb with ⟨Hb, Hbr⟩
  ihave H8 := (Entails.of_eq (show (arg8.view.loc (thrV d L) ↦{fullShare} f8 : sProp 𝕄)
      = arg8.view.loc (thrV d L) ↦[arg8.view.set]{fullShare} f8 by rw [h8])) $$ H8
  ihave H9 := (Entails.of_eq (show (arg9.view.loc (thrV d L) ↦{fullShare} f9 : sProp 𝕄)
      = arg9.view.loc (thrV d L) ↦[arg9.view.set]{fullShare} f9 by rw [h9])) $$ H9
  -- the first gather
  iapply (SparseCore.wp_indirectGatherLocal countersEmb 𝒱₀ (thrV d L) none (hg := gathers_S100000x128_S128x128) (default : HIx 2)
      arg8.view.dmaCredit (credit_sum arg8 _) numel_pos hin) $$ [Ha H8 H7a Hs10]
  · isplitl [Ha]; · iexact Ha
    isplitl [H8]; · iexact H8
    isplitl [H7a]; · iexact H7a
    iexact Hs10
  iintro Hfa
  sl_exec
  -- the second gather
  iapply (SparseCore.wp_indirectGatherLocal countersEmb 𝒱₀ (thrV d L) none (hg := gathers_S100000x128_S128x128) (default : HIx 2)
      arg9.view.dmaCredit (credit_sum arg9 _) numel_pos hin) $$ [Hb H9 H7b Hs11]
  · isplitl [Hb]; · iexact Hb
    isplitl [H9]; · iexact H9
    isplitl [H7b]; · iexact H7b
    iexact Hs11
  iintro Hfb
  sl_exec
  -- the first wait
  iapply (Transfers.wp_waitLocalO countersEmb 𝒱₀ (thrV d L) none (default : HIx 2) (rfl : arg8.view.dmaCredit = _)) $$ [Hfa HO]
  · isplitl [Hfa]; · iexact Hfa
    isplitl [HO]; · iexact HO
    iapply (Transfers.MayWaits.elim (SemLoc.dma arg10.sem)) $$ Hmw
  iintro ⟨⟨H8, Ha, H7a⟩, Hs10, HO⟩
  sl_step
  -- its rows, to the first result
  iapply (Transfers.wp_dmaLocal countersEmb 𝒱₀ (thrV d L) none (src := arg8) (dst := blkK L arg5) (sm := SemLoc.dma r1.sem)
     (Sd := (blkK L arg5).view.set) (default : HIx 2) (blkK L arg5).view.dmaCredit (View.amount_dma _ _) (View.dmaCredit_pos _ numel_pos)
     (Finset.Subset.refl _)) $$ [H8 H5 Hs1]
  · isplitl [H8]; · iexact H8
    isplitl [H5]; · iexact H5
    iexact Hs1
  iintro Hf1
  iapply (Transfers.wp_waitLocalO countersEmb 𝒱₀ (thrV d L) none (default : HIx 2) (rfl : (blkK L arg5).view.dmaCredit = _)) $$ [Hf1 HO]
  · isplitl [Hf1]; · iexact Hf1
    isplitl [HO]; · iexact HO
    iapply (Transfers.MayWaits.elim (SemLoc.dma r1.sem)) $$ Hmw
  iintro ⟨⟨H5, H8⟩, Hs1, HO⟩
  -- the second wait
  iapply (Transfers.wp_waitLocalO countersEmb 𝒱₀ (thrV d L) none (default : HIx 2) (rfl : arg9.view.dmaCredit = _)) $$ [Hfb HO]
  · isplitl [Hfb]; · iexact Hfb
    isplitl [HO]; · iexact HO
    iapply (Transfers.MayWaits.elim (SemLoc.dma arg11.sem)) $$ Hmw
  iintro ⟨⟨H9, Hb, H7b⟩, Hs11, HO⟩
  -- its rows, to the second result
  iapply (Transfers.wp_dmaLocal countersEmb 𝒱₀ (thrV d L) none (src := arg9) (dst := blkK L arg6) (sm := SemLoc.dma r2.sem)
     (Sd := (blkK L arg6).view.set) (default : HIx 2) (blkK L arg6).view.dmaCredit (View.amount_dma _ _) (View.dmaCredit_pos _ numel_pos)
     (Finset.Subset.refl _)) $$ [H9 H6 Hs2]
  · isplitl [H9]; · iexact H9
    isplitl [H6]; · iexact H6
    iexact Hs2
  iintro Hf2
  iapply (Transfers.wp_waitLocalO countersEmb 𝒱₀ (thrV d L) none (default : HIx 2) (rfl : (blkK L arg6).view.dmaCredit = _)) $$ [Hf2 HO]
  · isplitl [Hf2]; · iexact Hf2
    isplitl [HO]; · iexact HO
    iapply (Transfers.MayWaits.elim (SemLoc.dma r2.sem)) $$ Hmw
  iintro ⟨⟨H6, H9⟩, Hs2, HO⟩
  iapply (Entails.of_eq (wp_ret _ _ _ PUnit.unit _).symm)
  imodintro
  ihave H8 := (Entails.of_eq (show (arg8.view.loc (thrV d L) ↦[arg8.view.set]{fullShare} _ : sProp 𝕄)
      = arg8.view.loc (thrV d L) ↦{fullShare} _ by rw [h8])) $$ H8
  ihave H9 := (Entails.of_eq (show (arg9.view.loc (thrV d L) ↦[arg9.view.set]{fullShare} _ : sProp 𝕄)
      = arg9.view.loc (thrV d L) ↦{fullShare} _ by rw [h9])) $$ H9
  isplitl [Hi]; · iexact Hi
  isplitl [Ha Har]
  · iapply (pointsTo_split_subset (q := qa) (f := fa) (S := Finset.univ) (Finset.subset_univ (tabK arg3).view.set)).2
    isplitl [Ha] <;> iassumption
  isplitl [Hb Hbr]
  · iapply (pointsTo_split_subset (q := qb) (f := fb) (S := Finset.univ) (Finset.subset_univ (tabK arg4).view.set)).2
    isplitl [Hb] <;> iassumption
  isplitl [H5]
  · iexists _; isplitr
    swap; · iexact H5
    ipureintro; intro x
    exact (congrFun (View.read_write_univ (v := arg8.view) f8 _) x).trans (hpa x)
  isplitl [H6]
  · iexists _; isplitr
    swap; · iexact H6
    ipureintro; intro x
    exact (congrFun (View.read_write_univ (v := arg9.view) f9 _) x).trans (hpb x)
  isplitl [H7a H7b H7r]
  · iexists _
    iapply (pointsTo_split_subset (q := fullShare) (S := Finset.univ) (Finset.subset_univ (lstK arg7).view.set)).2
    isplitr [H7r]
    swap; · iexact H7r
    iapply (pointsTo_share (PosShare.mem_left_op_right fullShare)).2
    isplitl [H7a]; · iexact H7a
    iexact H7b
  isplitl [H8]; · iexists _; iexact H8
  isplitl [H9]; · iexists _; iexact H9
  isplitl [Hs10]; · iexact Hs10
  isplitl [Hs11]; · iexact Hs11
  isplitl [Hs0]; · iexact Hs0
  isplitl [Hs1]; · iexact Hs1
  isplitl [Hs2]; · iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

end Cert.Proof.Sc

end
-- ==== Proof.ScCalls.lean ====
/-
  The two SparseCore calls. Each hands its 32 tasks a row of 128 numbers, a share of the two tables and a block of 128 rows of
  each result; together the tasks leave in the results the rows that the call's 32 × 128 numbers name.
-/
module

public import proofs.«01_k».proof.Proof.ScTile

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The pieces of the arrays -/

theorem idiv : 32 ∣ S32x128.size 0 := ⟨1, rfl⟩
theorem odiv : 32 ∣ S4096x128.size 0 := ⟨128, rfl⟩
/-- Row `w` of the numbers and block `w` of a result. -/
abbrev rowR (w : Fin 32) : Rect S32x128 := Rect.part (s := S32x128) (a₀ := 0) idiv w
abbrev blkR (w : Fin 32) : Rect S4096x128 := Rect.part (s := S4096x128) (a₀ := 0) odiv w
/-- The share of a table that task `w` reads through. -/
abbrev leafQ (w : Fin 32) : PosShare TreeShare := ShareLeaves.leaf 5 fullShare w

/-- The number of the task at coordinates `L`. -/
def wL (L : grid0.Coords) : Fin 32 :=
  ⟨2 * (L 1).val + (L 0).val, by
    have h1 : (L 1).val < 16 := (L 1).isLt
    have h0 : (L 0).val < 2 := (L 0).isLt
    omega⟩

theorem rowK_rect (L : grid0.Coords) : Rect.unit (s := S32x128) (k0_off1 L) S1x128.size (k0_off1_inb L) = rowR (wL L) := by
  unfold rowR Rect.part Rect.block
  congr 1 <;> funext a
  · rw [k0_off1_eq]
    match a with
    | 0 => simp [Shape.partIx, Shape.partSize, wL]
    | 1 => simp [Shape.partIx, Shape.partSize]
  · match a with
    | 0 => simp [Shape.partSize]
    | 1 => simp [Shape.partSize]

theorem blkK_rect (L : grid0.Coords) : Rect.unit (s := S4096x128) (k0_off2 L) S128x128.size (k0_off2_inb L) = blkR (wL L) := by
  unfold blkR Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]

/-- An array is held whole when its rows are held, row by row; -/
theorem pts_rows (ℓ : Loc nD τ sig) (R : Fin 32 → Finset (Idx ℓ)) (hd : ∀ i ∈ (Finset.univ : Finset (Fin 32)), ∀ j ∈ (Finset.univ : Finset (Fin 32)), i ≠ j → Disjoint (R i) (R j))
    (hc : (Finset.univ : Finset (Fin 32)).biUnion R = Finset.univ) (f : Buf (Elt F) ℓ) :
    (ℓ ↦{fullShare} f : sProp 𝕄) = bigSep Finset.univ fun i : Fin 32 => ℓ ↦[R i]{fullShare} f := by
  rw [← pointsTo_biUnion Finset.univ (ℓ := ℓ) R hd, hc]; try rfl
/-- and held whole when each task holds its share. -/
theorem pts_leaves (ℓ : Loc nD τ sig) (f : Buf (Elt F) ℓ) :
    (ℓ ↦{fullShare} f : sProp 𝕄) = bigSep Finset.univ fun i : Fin 32 => ℓ ↦{leafQ i} f :=
  ShareLeaves.pointsTo_leaves Finset.univ f 5 fullShare

theorem rows_disjoint : ∀ i ∈ (Finset.univ : Finset (Fin 32)), ∀ j ∈ (Finset.univ : Finset (Fin 32)), i ≠ j → Disjoint (rowR i).set (rowR j).set :=
  fun _ _ _ _ h => Rect.part_disjoint idiv h
theorem blks_disjoint : ∀ i ∈ (Finset.univ : Finset (Fin 32)), ∀ j ∈ (Finset.univ : Finset (Fin 32)), i ≠ j → Disjoint (blkR i).set (blkR j).set :=
  fun _ _ _ _ h => Rect.part_disjoint odiv h

/-! ## What the calls carry -/

variable (m : (ℓ : Loc nD τ sig) → Buf (Elt F) ℓ) (ix0 ix1 : Dev nD → S32x128.Idx → BitVec 32)

abbrev lc (d : Dev nD) (b : Ref sig .tc) : Loc nD τ sig := (SparseCore.T d).loc b

/-- What task `w` of the first call is handed, -/
abbrev go0 (d : Dev nD) (w : Fin 32) : sProp 𝕄 :=
  iprop((lc d main_v1 ↦[(rowR w).set]{fullShare} ix0 d) ∗ (lc d main_arg1 ↦{leafQ w} m (lc d main_arg1)) ∗ (lc d main_arg3 ↦{leafQ w} m (lc d main_arg3))
    ∗ (lc d main_v2_0 ↦[(blkR w).set]{fullShare} m (lc d main_v2_0)) ∗ (lc d main_v2_1 ↦[(blkR w).set]{fullShare} m (lc d main_v2_1)))
/-- and what it brings back. -/
abbrev td0 (d : Dev nD) (w : Fin 32) : sProp 𝕄 :=
  iprop((lc d main_v1 ↦[(rowR w).set]{fullShare} ix0 d) ∗ (lc d main_arg1 ↦{leafQ w} m (lc d main_arg1)) ∗ (lc d main_arg3 ↦{leafQ w} m (lc d main_arg3))
    ∗ (lc d main_v2_0 ↦[(blkR w).set]{fullShare} gath (m (lc d main_arg1)) (ix0 d)) ∗ (lc d main_v2_1 ↦[(blkR w).set]{fullShare} gath (m (lc d main_arg3)) (ix0 d)))
/-- The same of the second call. -/
abbrev go1 (d : Dev nD) (w : Fin 32) : sProp 𝕄 :=
  iprop((lc d main_v3 ↦[(rowR w).set]{fullShare} ix1 d) ∗ (lc d main_arg1 ↦{leafQ w} m (lc d main_arg1)) ∗ (lc d main_arg3 ↦{leafQ w} m (lc d main_arg3))
    ∗ (lc d main_v4_0 ↦[(blkR w).set]{fullShare} m (lc d main_v4_0)) ∗ (lc d main_v4_1 ↦[(blkR w).set]{fullShare} m (lc d main_v4_1)))
abbrev td1 (d : Dev nD) (w : Fin 32) : sProp 𝕄 :=
  iprop((lc d main_v3 ↦[(rowR w).set]{fullShare} ix1 d) ∗ (lc d main_arg1 ↦{leafQ w} m (lc d main_arg1)) ∗ (lc d main_arg3 ↦{leafQ w} m (lc d main_arg3))
    ∗ (lc d main_v4_0 ↦[(blkR w).set]{fullShare} gath (m (lc d main_arg1)) (ix1 d)) ∗ (lc d main_v4_1 ↦[(blkR w).set]{fullShare} gath (m (lc d main_arg3)) (ix1 d)))

/-- The number of task `i` of core `c`. -/
abbrev tk (c : Fin 2) (i : Fin 16) : Fin 32 := finProdFinEquiv (i, c)

/-- What the two calls' handshakes carry. -/
def P : (K (F := F)).Pay (nD := nD) (Val := Elt F) (Name := ℕ) (U := UU) where
  st := fun q d c => match q with
    | 0 => bigSep Finset.univ fun i : Fin 16 => go0 m ix0 d (tk c i)
    | 1 => bigSep Finset.univ fun i : Fin 16 => go1 m ix1 d (tk c i)
  dn := fun q d c => match q with
    | 0 => bigSep Finset.univ fun i : Fin 16 => td0 m ix0 d (tk c i)
    | 1 => bigSep Finset.univ fun i : Fin 16 => td1 m ix1 d (tk c i)
  go := fun q d c i => match q with
    | 0 => go0 m ix0 d (tk c i)
    | 1 => go1 m ix1 d (tk c i)
  td := fun q d c i => match q with
    | 0 => td0 m ix0 d (tk c i)
    | 1 => td1 m ix1 d (tk c i)
  x := fun _ _ => iprop(emp)

instance P_storable : (P (F := F) m ix0 ix1).IsStorable where
  st q d c := match q with
    | 0 => (inferInstance : BI.Storable (upEmb : UEmb _ 𝕄) (bigSep Finset.univ fun i : Fin 16 => go0 m ix0 d (tk c i)))
    | 1 => (inferInstance : BI.Storable (upEmb : UEmb _ 𝕄) (bigSep Finset.univ fun i : Fin 16 => go1 m ix1 d (tk c i)))
  dn q d c := match q with
    | 0 => (inferInstance : BI.Storable (upEmb : UEmb _ 𝕄) (bigSep Finset.univ fun i : Fin 16 => td0 m ix0 d (tk c i)))
    | 1 => (inferInstance : BI.Storable (upEmb : UEmb _ 𝕄) (bigSep Finset.univ fun i : Fin 16 => td1 m ix1 d (tk c i)))
  go q d c i := match q with
    | 0 => (inferInstance : BI.Storable (upEmb : UEmb _ 𝕄) (go0 m ix0 d (tk c i)))
    | 1 => (inferInstance : BI.Storable (upEmb : UEmb _ 𝕄) (go1 m ix1 d (tk c i)))
  td q d c i := match q with
    | 0 => (inferInstance : BI.Storable (upEmb : UEmb _ 𝕄) (td0 m ix0 d (tk c i)))
    | 1 => (inferInstance : BI.Storable (upEmb : UEmb _ 𝕄) (td1 m ix1 d (tk c i)))

theorem vecSplit (q : Fin 2) : (K (F := F)).VecSplit' (P m ix0 ix1) q := by
  intro d c
  match q with
  | 0 =>
    show (bigSep Finset.univ fun i : Fin 16 => go0 m ix0 d (tk c i)) ⊢ |={Set.univ}=> iprop((bigSep Finset.univ fun i : Fin 16 => go0 m ix0 d (tk c i))
      ∗ ((bigSep Finset.univ fun i : Fin 16 => td0 m ix0 d (tk c i)) -∗ (bigSep Finset.univ fun i : Fin 16 => td0 m ix0 d (tk c i))))
    iintro H; imodintro
    isplitl [H]; · iexact H
    iintro H; iexact H
  | 1 =>
    show (bigSep Finset.univ fun i : Fin 16 => go1 m ix1 d (tk c i)) ⊢ |={Set.univ}=> iprop((bigSep Finset.univ fun i : Fin 16 => go1 m ix1 d (tk c i))
      ∗ ((bigSep Finset.univ fun i : Fin 16 => td1 m ix1 d (tk c i)) -∗ (bigSep Finset.univ fun i : Fin 16 => td1 m ix1 d (tk c i))))
    iintro H; imodintro
    isplitl [H]; · iexact H
    iintro H; iexact H

/-! ## A call's operands and results, whole -/

theorem bigSep_tasks (Φ : Fin 32 → sProp 𝕄) :
    (bigSep Finset.univ fun c : Fin 2 => bigSep Finset.univ fun i : Fin 16 => Φ (tk c i)) = bigSep Finset.univ Φ := by
  rw [bigSep_univ_equiv (finProdFinEquiv (m := 16) (n := 2)) Φ, bigSep_univ_equiv (Equiv.prodComm (Fin 2) (Fin 16)), bigSep_univ_prod]
  rfl

/-- What the first call takes, the arrays whole: the numbers, the tables and the results as they stand. -/
theorem st0_eq (d : Dev nD) : (bigSep Finset.univ fun c : Fin ((K (F := F)).nCore 0) => (P m ix0 ix1).st 0 d c)
    = (iprop((lc d main_v1 ↦{fullShare} ix0 d) ∗ (lc d main_arg1 ↦{fullShare} m (lc d main_arg1)) ∗ (lc d main_arg3 ↦{fullShare} m (lc d main_arg3))
        ∗ (lc d main_v2_0 ↦{fullShare} m (lc d main_v2_0)) ∗ (lc d main_v2_1 ↦{fullShare} m (lc d main_v2_1))) : sProp 𝕄) := by
  refine (bigSep_tasks (go0 m ix0 d)).trans ?_
  rw [bigSep_sep', bigSep_sep', bigSep_sep', bigSep_sep']
  rw [pts_rows (lc d main_v1) (fun w => (rowR w).set) rows_disjoint (Rect.biUnion_part idiv), pts_leaves, pts_leaves,
    pts_rows (lc d main_v2_0) (fun w => (blkR w).set) blks_disjoint (Rect.biUnion_part odiv),
    pts_rows (lc d main_v2_1) (fun w => (blkR w).set) blks_disjoint (Rect.biUnion_part odiv)]
/-- What it brings back: the results at the rows its numbers name. -/
theorem dn0_eq (d : Dev nD) : (bigSep Finset.univ fun c : Fin ((K (F := F)).nCore 0) => (P m ix0 ix1).dn 0 d c)
    = (iprop((lc d main_v1 ↦{fullShare} ix0 d) ∗ (lc d main_arg1 ↦{fullShare} m (lc d main_arg1)) ∗ (lc d main_arg3 ↦{fullShare} m (lc d main_arg3))
        ∗ (lc d main_v2_0 ↦{fullShare} gath (m (lc d main_arg1)) (ix0 d)) ∗ (lc d main_v2_1 ↦{fullShare} gath (m (lc d main_arg3)) (ix0 d))) : sProp 𝕄) := by
  refine (bigSep_tasks (td0 m ix0 d)).trans ?_
  rw [bigSep_sep', bigSep_sep', bigSep_sep', bigSep_sep']
  rw [pts_rows (lc d main_v1) (fun w => (rowR w).set) rows_disjoint (Rect.biUnion_part idiv), pts_leaves, pts_leaves,
    pts_rows (lc d main_v2_0) (fun w => (blkR w).set) blks_disjoint (Rect.biUnion_part odiv),
    pts_rows (lc d main_v2_1) (fun w => (blkR w).set) blks_disjoint (Rect.biUnion_part odiv)]
/-- The second call takes the same, over its own arrays, -/
theorem st1_eq (d : Dev nD) : (bigSep Finset.univ fun c : Fin ((K (F := F)).nCore 1) => (P m ix0 ix1).st 1 d c)
    = (iprop((lc d main_v3 ↦{fullShare} ix1 d) ∗ (lc d main_arg1 ↦{fullShare} m (lc d main_arg1)) ∗ (lc d main_arg3 ↦{fullShare} m (lc d main_arg3))
        ∗ (lc d main_v4_0 ↦{fullShare} m (lc d main_v4_0)) ∗ (lc d main_v4_1 ↦{fullShare} m (lc d main_v4_1))) : sProp 𝕄) := by
  refine (bigSep_tasks (go1 m ix1 d)).trans ?_
  rw [bigSep_sep', bigSep_sep', bigSep_sep', bigSep_sep']
  rw [pts_rows (lc d main_v3) (fun w => (rowR w).set) rows_disjoint (Rect.biUnion_part idiv), pts_leaves, pts_leaves,
    pts_rows (lc d main_v4_0) (fun w => (blkR w).set) blks_disjoint (Rect.biUnion_part odiv),
    pts_rows (lc d main_v4_1) (fun w => (blkR w).set) blks_disjoint (Rect.biUnion_part odiv)]
/-- and brings back the rows its own numbers name. -/
theorem dn1_eq (d : Dev nD) : (bigSep Finset.univ fun c : Fin ((K (F := F)).nCore 1) => (P m ix0 ix1).dn 1 d c)
    = (iprop((lc d main_v3 ↦{fullShare} ix1 d) ∗ (lc d main_arg1 ↦{fullShare} m (lc d main_arg1)) ∗ (lc d main_arg3 ↦{fullShare} m (lc d main_arg3))
        ∗ (lc d main_v4_0 ↦{fullShare} gath (m (lc d main_arg1)) (ix1 d)) ∗ (lc d main_v4_1 ↦{fullShare} gath (m (lc d main_arg3)) (ix1 d))) : sProp 𝕄) := by
  refine (bigSep_tasks (td1 m ix1 d)).trans ?_
  rw [bigSep_sep', bigSep_sep', bigSep_sep', bigSep_sep']
  rw [pts_rows (lc d main_v3) (fun w => (rowR w).set) rows_disjoint (Rect.biUnion_part idiv), pts_leaves, pts_leaves,
    pts_rows (lc d main_v4_0) (fun w => (blkR w).set) blks_disjoint (Rect.biUnion_part odiv),
    pts_rows (lc d main_v4_1) (fun w => (blkR w).set) blks_disjoint (Rect.biUnion_part odiv)]

end Cert.Proof.Sc

end
-- ==== Proof.ScObl.lean ====
/-
  Every task of the two SparseCore calls meets its obligation: from its row of numbers, its shares of the tables, its blocks of the
  results and its own memory it leaves in the blocks the rows that its numbers name.
-/
module

public import proofs.«01_k».proof.Proof.ScCalls

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## A task's own memory -/

section Own
variable (d : Dev nD) (L : grid0.Coords)

theorem cell_ne {a b : DmaSem sig} (h : a ≠ b) : ((thrV d L, .dma a) : GSem nD τ sig) ≠ (thrV d L, .dma b) :=
  fun e => h (SemLoc.dma.inj (Prod.mk.inj e).2)

/-- The five semaphores a task uses are among the subcore's own. -/
theorem ownSems0_five (a b c e f : DmaSem sig) (hs : ∀ x ∈ [a, b, c, e, f], (SemLoc.dma x : SemLoc sig).isScoped .scVector = true) (hn : [a, b, c, e, f].Nodup) :
    (ownSems0 (thrV d L) : sProp 𝕄)
      = iprop(semVal (thrV d L, .dma a) 0 ∗ semVal (thrV d L, .dma b) 0 ∗ semVal (thrV d L, .dma c) 0 ∗ semVal (thrV d L, .dma e) 0 ∗ semVal (thrV d L, .dma f) 0
          ∗ bigSep ((((((ownCells (thrV d L)).erase (thrV d L, .dma a)).erase (thrV d L, .dma b)).erase (thrV d L, .dma c)).erase (thrV d L, .dma e)).erase (thrV d L, .dma f))
              fun g => semVal g 0) := by
  have hm : ∀ x ∈ [a, b, c, e, f], ((thrV d L, .dma x) : GSem nD τ sig) ∈ ownCells (thrV d L) := fun x hx => mem_ownCells.mpr ⟨rfl, hs x hx⟩
  simp only [List.nodup_cons, List.mem_cons, List.not_mem_nil, _root_.or_false, not_or] at hn
  obtain ⟨⟨ab, ac, ae, af⟩, ⟨bc, be, bf⟩, ⟨ce, cf⟩, ef, -⟩ := hn
  unfold SparseCore.Cfg.ownSems0
  rw [SparseCore.bigSep_erase' (hm a (by simp)),
    SparseCore.bigSep_erase' (Finset.mem_erase.mpr ⟨cell_ne d L (Ne.symm ab), hm b (by simp)⟩),
    SparseCore.bigSep_erase' (Finset.mem_erase.mpr ⟨cell_ne d L (Ne.symm bc), Finset.mem_erase.mpr ⟨cell_ne d L (Ne.symm ac), hm c (by simp)⟩⟩),
    SparseCore.bigSep_erase' (Finset.mem_erase.mpr ⟨cell_ne d L (Ne.symm ce), Finset.mem_erase.mpr ⟨cell_ne d L (Ne.symm be),
      Finset.mem_erase.mpr ⟨cell_ne d L (Ne.symm ae), hm e (by simp)⟩⟩⟩),
    SparseCore.bigSep_erase' (Finset.mem_erase.mpr ⟨cell_ne d L (Ne.symm ef), Finset.mem_erase.mpr ⟨cell_ne d L (Ne.symm cf),
      Finset.mem_erase.mpr ⟨cell_ne d L (Ne.symm bf), Finset.mem_erase.mpr ⟨cell_ne d L (Ne.symm af), hm f (by simp)⟩⟩⟩⟩)]

/-- Three distinct buffers of a subcore's own are among them, each at some contents. -/
theorem ownBufs_three (r s t : Ref sig .scVector) (hr : ∀ x ∈ [r, s, t], (Proc.scVector (cV L) (jV L)).devRef x ∈ ownRefs (τ := τ) (.scVector (cV L) (jV L)))
    (hn : [r, s, t].Nodup) :
    (ownBufs (thrV d L) : sProp 𝕄)
      = iprop((∃ f, (thrV d L).loc r ↦{fullShare} f) ∗ (∃ f, (thrV d L).loc s ↦{fullShare} f) ∗ (∃ f, (thrV d L).loc t ↦{fullShare} f)
          ∗ bigSep ((((ownRefs (τ := τ) (.scVector (cV L) (jV L))).erase ((Proc.scVector (cV L) (jV L)).devRef r)).erase ((Proc.scVector (cV L) (jV L)).devRef s)).erase
              ((Proc.scVector (cV L) (jV L)).devRef t))
              fun b => iprop(∃ f, ((d, b) : Loc nD τ sig) ↦{fullShare} f)) := by
  have hne : ∀ {x y : Ref sig .scVector}, x ≠ y → (Proc.scVector (cV L) (jV L)).devRef y ≠ (Proc.scVector (cV L) (jV L)).devRef x :=
    fun h e => h (Proc.devRef_injective _ e).symm
  simp only [List.nodup_cons, List.mem_cons, List.not_mem_nil, _root_.or_false, not_or] at hn
  obtain ⟨⟨rs, rt⟩, st, -⟩ := hn
  unfold SparseCore.Cfg.ownBufs
  refine (SparseCore.bigSep_erase' (hr r (by simp))).trans ?_
  rw [SparseCore.bigSep_erase' (Finset.mem_erase.mpr ⟨hne rs, hr s (by simp)⟩),
    SparseCore.bigSep_erase' (Finset.mem_erase.mpr ⟨hne st, Finset.mem_erase.mpr ⟨hne rt, hr t (by simp)⟩⟩)]

/-- Row `x 0` of block `w` of the gathered rows is the table's row named by number `x 0` of row `w`. -/
theorem gath_blk {α : Type} (T : S100000x128.Idx → α) (ix : S32x128.Idx → BitVec 32) (w : Fin 32) (x : S128x128.Idx) (y : S4096x128.Idx) (z : S32x128.Idx)
    (h0 : (y 0).val = 128 * w.val + (x 0).val) (h1 : (y 1).val = (x 1).val) (z0 : (z 0).val = w.val) (z1 : (z 1).val = (x 0).val) :
    gath T ix y = rowAt T (ix z).toNat (x 1) := by
  have hx : (x 0).val < 128 := (x 0).isLt
  have hz : z = ix2 ⟨(y 0).val / 128, by have : (y 0).val < 4096 := (y 0).isLt; omega⟩ ⟨(y 0).val % 128, Nat.mod_lt _ (by decide)⟩ := by
    funext a
    match a with
    | ⟨0, _⟩ => apply Fin.ext; show (z 0).val = (y 0).val / 128; omega
    | ⟨1, _⟩ => apply Fin.ext; show (z 1).val = (y 0).val % 128; omega
  unfold gath
  rw [hz, show y 1 = x 1 from Fin.ext h1]

theorem row_emb (x : S128x128.Idx) : ∀ z : S32x128.Idx, z = (Rect.unit (s := S32x128) (k0_off1 L) S1x128.size (k0_off1_inb L)).emb (ix2 0 (x 0)) →
    (z 0).val = (wL L).val ∧ (z 1).val = (x 0).val := by
  rintro z rfl
  constructor
  · show (k0_off1 L) 0 + 1 * 0 = _; rw [k0_off1_eq]; simp [wL]
  · show (k0_off1 L) 1 + 1 * (x 0).val = _; rw [k0_off1_eq]; simp
theorem blk_emb (x : S128x128.Idx) : ∀ y : S4096x128.Idx, y = (Rect.unit (s := S4096x128) (k0_off2 L) S128x128.size (k0_off2_inb L)).emb x →
    (y 0).val = 128 * (wL L).val + (x 0).val ∧ (y 1).val = (x 1).val := by
  rintro y rfl
  constructor
  · show (k0_off2 L) 0 + 1 * (x 0).val = _; rw [k0_off2_eq]; simp [wL]; omega
  · show (k0_off2 L) 1 + 1 * (x 1).val = _; rw [k0_off2_eq]; simp

/-- An array agrees on a view with what a write through the view leaves, when the array reads as what was written. -/
theorem write_agrees {sh : Shape} {t : EltTy} (v : View sig .scVector .hbm sh t) (g5 g : v.ty.Contents (Elt F)) (p : sh.Idx → Elt F t)
    (h : ∀ x, v.read (Elt F) g x = p x) : ∀ i ∈ v.set, v.write (Elt F) g5 p Finset.univ i = g i := by
  intro i hi
  obtain ⟨x, -, rfl⟩ := Finset.mem_map.1 hi
  have := congrFun (View.read_write_univ (v := v) (Val := Elt F) g5 p) x
  rw [← h x, View.read_apply, View.read_apply] at this
  exact (cast_inj _).1 this

end Own

section Call
variable (d : Dev nD) (L : grid0.Coords)
variable (arg2 : Memref sig .scVector .hbm S32x128 .i32) (harg2 : arg2.IsWhole) (arg3 : Memref sig .scVector .hbm S100000x128 .f32) (harg3 : arg3.IsWhole)
  (arg4 : Memref sig .scVector .hbm S100000x128 .f32) (harg4 : arg4.IsWhole) (arg5 : Memref sig .scVector .hbm S4096x128 .f32) (harg5 : arg5.IsWhole)
  (arg6 : Memref sig .scVector .hbm S4096x128 .f32) (harg6 : arg6.IsWhole) (arg7 : Memref sig .scVector .vmem S1x128 .i32) (harg7 : arg7.IsWhole)
  (arg8 : Memref sig .scVector .vmem S128x128 .f32) (harg8 : arg8.IsWhole) (arg9 : Memref sig .scVector .vmem S128x128 .f32) (harg9 : arg9.IsWhole)
  (arg10 arg11 r0 r1 r2 : DmaSems sig S_)

/-- A task of either call, from what its call hands it and its own memory to what it brings back and its own memory. -/
theorem tile_call (qa qb : PosShare TreeShare)
    (fi : Buf (Elt F) (arg2.view.loc (thrV d L))) (fa : Buf (Elt F) (arg3.view.loc (thrV d L))) (fb : Buf (Elt F) (arg4.view.loc (thrV d L)))
    (g5 : Buf (Elt F) (arg5.view.loc (thrV d L))) (g6 : Buf (Elt F) (arg6.view.loc (thrV d L)))
    (hlt : ∀ x, ((rowK L arg2).view.read (Elt F) fi x).toNat < 100000)
    (O : CellTallies nD τ sig (HIx 2)) (W : Waits sig (HIx 2)) (hO : ∀ g, O g none = 0) (q : Fin 2)
    (A5 A6 RB RS : sProp 𝕄)
    (h5 : ∀ p : S128x128.Idx → Elt F .f32, (∀ x, p x = rowAt ((tabK arg3).view.read (Elt F) fa) ((rowK L arg2).view.read (Elt F) fi (ix2 0 (x 0))).toNat (x 1)) →
      ((blkK L arg5).view.loc (thrV d L) ↦[(blkK L arg5).view.set]{fullShare} (blkK L arg5).view.write (Elt F) g5 p Finset.univ : sProp 𝕄) = A5)
    (h6 : ∀ p : S128x128.Idx → Elt F .f32, (∀ x, p x = rowAt ((tabK arg4).view.read (Elt F) fb) ((rowK L arg2).view.read (Elt F) fi (ix2 0 (x 0))).toNat (x 1)) →
      ((blkK L arg6).view.loc (thrV d L) ↦[(blkK L arg6).view.set]{fullShare} (blkK L arg6).view.write (Elt F) g6 p Finset.univ : sProp 𝕄) = A6)
    (hB : (scopedBufs (thrV d L) : sProp 𝕄) = iprop((∃ f, arg7.view.loc (thrV d L) ↦{fullShare} f) ∗ (∃ f, arg8.view.loc (thrV d L) ↦{fullShare} f)
      ∗ (∃ f, arg9.view.loc (thrV d L) ↦{fullShare} f) ∗ RB))
    (hS : (scopedSems0 (thrV d L) : sProp 𝕄) = iprop(semVal (thrV d L, .dma arg10.sem) 0 ∗ semVal (thrV d L, .dma arg11.sem) 0
        ∗ semVal (thrV d L, .dma r0.sem) 0 ∗ semVal (thrV d L, .dma r1.sem) 0 ∗ semVal (thrV d L, .dma r2.sem) 0 ∗ RS)) :
    (iprop(levAts (K (F := F)).L (K (F := F)).lev ∗ emp
        ∗ (((rowK L arg2).view.loc (thrV d L) ↦[(rowK L arg2).view.set]{fullShare} fi)
          ∗ (arg3.view.loc (thrV d L) ↦{qa} fa) ∗ (arg4.view.loc (thrV d L) ↦{qb} fb)
          ∗ ((blkK L arg5).view.loc (thrV d L) ↦[(blkK L arg5).view.set]{fullShare} g5)
          ∗ ((blkK L arg6).view.loc (thrV d L) ↦[(blkK L arg6).view.set]{fullShare} g6))
        ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L arg2 harg2 arg3 harg3 arg4 harg4 arg5 harg5 arg6 harg6 arg7 harg7 arg8 harg8 arg9 harg9 arg10 arg11 r0 r1 r2)
          fun _ => iprop((((rowK L arg2).view.loc (thrV d L) ↦[(rowK L arg2).view.set]{fullShare} fi)
            ∗ (arg3.view.loc (thrV d L) ↦{qa} fa) ∗ (arg4.view.loc (thrV d L) ↦{qb} fb) ∗ A5 ∗ A6)
            ∗ scopedBufs (thrV d L) ∗ scopedSems0 (thrV d L) ∗ ∃ W', ⌜∀ p ∈ W', p ∈ W ∨ p.2 = none ∨ p.2 = some q⌝ ∗ owes (thrV d L) O W') := by
  rw [hB, hS]
  iintro ⟨#Hlv, -, ⟨Hi, Ha, Hb, H5, H6⟩, ⟨⟨%f7, H7⟩, ⟨%f8, H8⟩, ⟨%f9, H9⟩, HRB⟩, ⟨Hs10, Hs11, Hs0, Hs1, Hs2, HRS⟩, HO⟩
  iapply (wp_wand_r frame _ _)
  isplitr [HRB HRS]
  · iapply (tile_run d L arg2 harg2 arg3 harg3 arg4 harg4 arg5 harg5 arg6 harg6 arg7 harg7 arg8 harg8 arg9 harg9 arg10 arg11 r0 r1 r2
      qa qb fi fa fb g5 g6 f7 f8 f9 hlt O W hO)
    iframe
    iexact Hlv
  iintro %u ⟨Hi, Ha, Hb, ⟨%p5, %hp5, H5⟩, ⟨%p6, %hp6, H6⟩, H7, H8, H9, Hs10, Hs11, Hs0, Hs1, Hs2, %W', %hW', HO⟩
  ihave H5 := (Entails.of_eq (h5 p5 hp5)) $$ H5
  ihave H6 := (Entails.of_eq (h6 p6 hp6)) $$ H6
  isplitl [Hi Ha Hb H5 H6]
  · iframe
  isplitl [H7 H8 H9 HRB]
  · iframe
  isplitl [Hs10 Hs11 Hs0 Hs1 Hs2 HRS]
  · iframe
  iexists W'; isplitr
  · ipureintro; exact fun p hp => (hW' p hp).imp_right Or.inl
  · iexact HO

end Call

theorem tab_emb (x : S100000x128.Idx) : (Rect.unit (s := S100000x128) ![0, 0] S100000x128.size inb_S100000x128_S100000x128_0_0).emb x = x := by
  funext a
  match a with
  | ⟨0, _⟩ => apply Fin.ext; show 0 + 1 * (x 0).val = (x 0).val; omega
  | ⟨1, _⟩ => apply Fin.ext; show 0 + 1 * (x 1).val = (x 1).val; omega
/-- A table as a task reads it is the table. -/
theorem tab_read1 (T : S100000x128.Idx → Elt F .f32) : (tabK (Memref.whole main_arg1_scv)).view.read (Elt F) T = T := by
  funext x
  refine ((View.read_apply _ _).trans (cast_eq _ _)).trans ?_
  exact congrArg T (tab_emb x)
theorem tab_read3 (T : S100000x128.Idx → Elt F .f32) : (tabK (Memref.whole main_arg3_scv)).view.read (Elt F) T = T := by
  funext x
  refine ((View.read_apply _ _).trans (cast_eq _ _)).trans ?_
  exact congrArg T (tab_emb x)

variable (m : (ℓ : Loc nD τ sig) → Buf (Elt F) ℓ) (ix0 ix1 : Dev nD → S32x128.Idx → BitVec 32)

section Call0
variable (d : Dev nD) (L : grid0.Coords)

/-- A task's row of call 0's numbers and its blocks of the call's results, as parts of the arrays. -/
theorem row0_set : (rowK L (Memref.whole main_v1_scv)).view.set = (rowR (wL L)).set := by
  show ((View.whole (main_v1_scv : Ref sig .scVector)).slice (Rect.unit (s := S32x128) (k0_off1 L) S1x128.size (k0_off1_inb L))).set = _
  rw [View.set_slice_whole, rowK_rect]
theorem blk0a_set : (blkK L (Memref.whole main_v2_0_scv)).view.set = (blkR (wL L)).set := by
  show ((View.whole (main_v2_0_scv : Ref sig .scVector)).slice (Rect.unit (s := S4096x128) (k0_off2 L) S128x128.size (k0_off2_inb L))).set = _
  rw [View.set_slice_whole, blkK_rect]
theorem blk0b_set : (blkK L (Memref.whole main_v2_1_scv)).view.set = (blkR (wL L)).set := by
  show ((View.whole (main_v2_1_scv : Ref sig .scVector)).slice (Rect.unit (s := S4096x128) (k0_off2 L) S128x128.size (k0_off2_inb L))).set = _
  rw [View.set_slice_whole, blkK_rect]

/-- Call 0's row of numbers as the task reads it. -/
theorem row0_read (ix : S32x128.Idx → BitVec 32) (x : S1x128.Idx) :
    (rowK L (Memref.whole main_v1_scv)).view.read (Elt F) ix x = ix ((Rect.unit (s := S32x128) (k0_off1 L) S1x128.size (k0_off1_inb L)).emb x) :=
  (View.read_apply _ _).trans (cast_eq _ _)

theorem out0a (T : S100000x128.Idx → Elt F .f32) (ix : S32x128.Idx → BitVec 32) (g : Buf (Elt F) (lc d main_v2_0)) (p : S128x128.Idx → Elt F .f32)
    (hp : ∀ x, p x = rowAt ((tabK (Memref.whole main_arg1_scv)).view.read (Elt F) T) ((rowK L (Memref.whole main_v1_scv)).view.read (Elt F) ix (ix2 0 (x 0))).toNat (x 1)) :
    ((blkK L (Memref.whole main_v2_0_scv)).view.loc (thrV d L) ↦[(blkK L (Memref.whole main_v2_0_scv)).view.set]{fullShare} (blkK L (Memref.whole main_v2_0_scv)).view.write (Elt F) g p Finset.univ : sProp 𝕄)
      = (lc d main_v2_0 ↦[(blkR (wL L)).set]{fullShare} gath T ix) := by
  refine (pointsTo_congr (write_agrees (blkK L (Memref.whole main_v2_0_scv)).view g (gath T ix) p fun x => ?_)).trans (by rw [blk0a_set])
  rw [hp, row0_read, tab_read1]
  refine ((View.read_apply _ _).trans (cast_eq _ _)).trans ?_
  exact gath_blk T ix (wL L) x _ _ (blk_emb L x _ rfl).1 (blk_emb L x _ rfl).2 (row_emb L x _ rfl).1 (row_emb L x _ rfl).2
theorem out0b (T : S100000x128.Idx → Elt F .f32) (ix : S32x128.Idx → BitVec 32) (g : Buf (Elt F) (lc d main_v2_1)) (p : S128x128.Idx → Elt F .f32)
    (hp : ∀ x, p x = rowAt ((tabK (Memref.whole main_arg3_scv)).view.read (Elt F) T) ((rowK L (Memref.whole main_v1_scv)).view.read (Elt F) ix (ix2 0 (x 0))).toNat (x 1)) :
    ((blkK L (Memref.whole main_v2_1_scv)).view.loc (thrV d L) ↦[(blkK L (Memref.whole main_v2_1_scv)).view.set]{fullShare} (blkK L (Memref.whole main_v2_1_scv)).view.write (Elt F) g p Finset.univ : sProp 𝕄)
      = (lc d main_v2_1 ↦[(blkR (wL L)).set]{fullShare} gath T ix) := by
  refine (pointsTo_congr (write_agrees (blkK L (Memref.whole main_v2_1_scv)).view g (gath T ix) p fun x => ?_)).trans (by rw [blk0b_set])
  rw [hp, row0_read, tab_read3]
  refine ((View.read_apply _ _).trans (cast_eq _ _)).trans ?_
  exact gath_blk T ix (wL L) x _ _ (blk_emb L x _ rfl).1 (blk_emb L x _ rfl).2 (row_emb L x _ rfl).1 (row_emb L x _ rfl).2

/-- The task at coordinates `L` of call 0. -/
theorem tile_body0 (h : ∀ d x, (ix0 d x).toNat < 100000) (O : CellTallies nD τ sig (HIx 2)) (W : Waits sig (HIx 2)) (hO : ∀ g, O g none = 0) :
    (iprop(levAts (K (F := F)).L (K (F := F)).lev ∗ emp ∗ go0 m ix0 d (wL L) ∗ scopedBufs (thrV d L) ∗ scopedSems0 (thrV d L) ∗ owes (thrV d L) O W) : sProp 𝕄)
      ⊢ wp frame (wpE (defs₀ (F := F)) 𝒱₀ (thrV d L) none) Set.univ
          (cc0__sc_gather_body L (Memref.whole main_v1_scv) (Memref.isWhole_whole _) (Memref.whole main_arg1_scv) (Memref.isWhole_whole _) (Memref.whole main_arg3_scv) (Memref.isWhole_whole _)
            (Memref.whole main_v2_0_scv) (Memref.isWhole_whole _) (Memref.whole main_v2_1_scv) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0 cc0_scoped1 cc0_scoped2)
          fun _ => iprop(td0 m ix0 d (wL L) ∗ scopedBufs (thrV d L) ∗ scopedSems0 (thrV d L) ∗ ∃ W', ⌜∀ p ∈ W', p ∈ W ∨ p.2 = none ∨ p.2 = some (0 : Fin 2)⌝ ∗ owes (thrV d L) O W') := by
  have := tile_call d L (Memref.whole main_v1_scv) (Memref.isWhole_whole _) (Memref.whole main_arg1_scv) (Memref.isWhole_whole _) (Memref.whole main_arg3_scv) (Memref.isWhole_whole _)
    (Memref.whole main_v2_0_scv) (Memref.isWhole_whole _) (Memref.whole main_v2_1_scv) (Memref.isWhole_whole _) (Memref.whole cc0_scratch0) (Memref.isWhole_whole _)
    (Memref.whole cc0_scratch1) (Memref.isWhole_whole _) (Memref.whole cc0_scratch2) (Memref.isWhole_whole _) cc0_scratch3 cc0_scratch4 cc0_scoped0 cc0_scoped1 cc0_scoped2
    (leafQ (wL L)) (leafQ (wL L)) (ix0 d) (m (lc d main_arg1)) (m (lc d main_arg3)) (m (lc d main_v2_0)) (m (lc d main_v2_1))
    (fun x => by rw [row0_read]; exact h d _) O W hO 0 _ _ _ _
    (out0a d L (m (lc d main_arg1)) (ix0 d) (m (lc d main_v2_0))) (out0b d L (m (lc d main_arg3)) (ix0 d) (m (lc d main_v2_1)))
    (((K (F := F)).scopedBufs_V facts d (cV L) (jV L)).trans (ownBufs_three d L cc0_scratch0 cc0_scratch1 cc0_scratch2
      (by intro x hx; simp only [List.mem_cons, List.not_mem_nil, _root_.or_false] at hx; rcases hx with rfl | rfl | rfl <;> exact SparseCore.Cfg.mem_ownRefs_of_owner rfl)
      (by decide)))
    ((SparseCore.Cfg.scopedSems0_V (Val := Elt F) d (cV L) (jV L)).trans (ownSems0_five d L cc0_scratch3.sem cc0_scratch4.sem cc0_scoped0.sem cc0_scoped1.sem cc0_scoped2.sem (by decide) (by decide)))
  rw [row0_set, blk0a_set, blk0b_set] at this
  exact this

end Call0

section Call1
variable (d : Dev nD) (L : grid1.Coords)

/-- A task's row of call 1's numbers and its blocks of the call's results, as parts of the arrays. -/
theorem row1_set : (rowK L (Memref.whole main_v3_scv)).view.set = (rowR (wL L)).set := by
  show ((View.whole (main_v3_scv : Ref sig .scVector)).slice (Rect.unit (s := S32x128) (k0_off1 L) S1x128.size (k0_off1_inb L))).set = _
  rw [View.set_slice_whole, rowK_rect]
theorem blk1a_set : (blkK L (Memref.whole main_v4_0_scv)).view.set = (blkR (wL L)).set := by
  show ((View.whole (main_v4_0_scv : Ref sig .scVector)).slice (Rect.unit (s := S4096x128) (k0_off2 L) S128x128.size (k0_off2_inb L))).set = _
  rw [View.set_slice_whole, blkK_rect]
theorem blk1b_set : (blkK L (Memref.whole main_v4_1_scv)).view.set = (blkR (wL L)).set := by
  show ((View.whole (main_v4_1_scv : Ref sig .scVector)).slice (Rect.unit (s := S4096x128) (k0_off2 L) S128x128.size (k0_off2_inb L))).set = _
  rw [View.set_slice_whole, blkK_rect]

/-- Call 1's row of numbers as the task reads it. -/
theorem row1_read (ix : S32x128.Idx → BitVec 32) (x : S1x128.Idx) :
    (rowK L (Memref.whole main_v3_scv)).view.read (Elt F) ix x = ix ((Rect.unit (s := S32x128) (k0_off1 L) S1x128.size (k0_off1_inb L)).emb x) :=
  (View.read_apply _ _).trans (cast_eq _ _)

theorem out1a (T : S100000x128.Idx → Elt F .f32) (ix : S32x128.Idx → BitVec 32) (g : Buf (Elt F) (lc d main_v4_0)) (p : S128x128.Idx → Elt F .f32)
    (hp : ∀ x, p x = rowAt ((tabK (Memref.whole main_arg1_scv)).view.read (Elt F) T) ((rowK L (Memref.whole main_v3_scv)).view.read (Elt F) ix (ix2 0 (x 0))).toNat (x 1)) :
    ((blkK L (Memref.whole main_v4_0_scv)).view.loc (thrV d L) ↦[(blkK L (Memref.whole main_v4_0_scv)).view.set]{fullShare} (blkK L (Memref.whole main_v4_0_scv)).view.write (Elt F) g p Finset.univ : sProp 𝕄)
      = (lc d main_v4_0 ↦[(blkR (wL L)).set]{fullShare} gath T ix) := by
  refine (pointsTo_congr (write_agrees (blkK L (Memref.whole main_v4_0_scv)).view g (gath T ix) p fun x => ?_)).trans (by rw [blk1a_set])
  rw [hp, row1_read, tab_read1]
  refine ((View.read_apply _ _).trans (cast_eq _ _)).trans ?_
  exact gath_blk T ix (wL L) x _ _ (blk_emb L x _ rfl).1 (blk_emb L x _ rfl).2 (row_emb L x _ rfl).1 (row_emb L x _ rfl).2
theorem out1b (T : S100000x128.Idx → Elt F .f32) (ix : S32x128.Idx → BitVec 32) (g : Buf (Elt F) (lc d main_v4_1)) (p : S128x128.Idx → Elt F .f32)
    (hp : ∀ x, p x = rowAt ((tabK (Memref.whole main_arg3_scv)).view.read (Elt F) T) ((rowK L (Memref.whole main_v3_scv)).view.read (Elt F) ix (ix2 0 (x 0))).toNat (x 1)) :
    ((blkK L (Memref.whole main_v4_1_scv)).view.loc (thrV d L) ↦[(blkK L (Memref.whole main_v4_1_scv)).view.set]{fullShare} (blkK L (Memref.whole main_v4_1_scv)).view.write (Elt F) g p Finset.univ : sProp 𝕄)
      = (lc d main_v4_1 ↦[(blkR (wL L)).set]{fullShare} gath T ix) := by
  refine (pointsTo_congr (write_agrees (blkK L (Memref.whole main_v4_1_scv)).view g (gath T ix) p fun x => ?_)).trans (by rw [blk1b_set])
  rw [hp, row1_read, tab_read3]
  refine ((View.read_apply _ _).trans (cast_eq _ _)).trans ?_
  exact gath_blk T ix (wL L) x _ _ (blk_emb L x _ rfl).1 (blk_emb L x _ rfl).2 (row_emb L x _ rfl).1 (row_emb L x _ rfl).2

/-- The task at coordinates `L` of call 1. -/
theorem tile_body1 (h : ∀ d x, (ix1 d x).toNat < 100000) (O : CellTallies nD τ sig (HIx 2)) (W : Waits sig (HIx 2)) (hO : ∀ g, O g none = 0) :
    (iprop(levAts (K (F := F)).L (K (F := F)).lev ∗ emp ∗ go1 m ix1 d (wL L) ∗ scopedBufs (thrV d L) ∗ scopedSems0 (thrV d L) ∗ owes (thrV d L) O W) : sProp 𝕄)
      ⊢ wp frame (wpE (defs₀ (F := F)) 𝒱₀ (thrV d L) none) Set.univ
          (cc1__sc_gather_body L (Memref.whole main_v3_scv) (Memref.isWhole_whole _) (Memref.whole main_arg1_scv) (Memref.isWhole_whole _) (Memref.whole main_arg3_scv) (Memref.isWhole_whole _)
            (Memref.whole main_v4_0_scv) (Memref.isWhole_whole _) (Memref.whole main_v4_1_scv) (Memref.isWhole_whole _) (Memref.whole cc1_scratch0) (Memref.isWhole_whole _)
            (Memref.whole cc1_scratch1) (Memref.isWhole_whole _) (Memref.whole cc1_scratch2) (Memref.isWhole_whole _) cc1_scratch3 cc1_scratch4 cc1_scoped0 cc1_scoped1 cc1_scoped2)
          fun _ => iprop(td1 m ix1 d (wL L) ∗ scopedBufs (thrV d L) ∗ scopedSems0 (thrV d L) ∗ ∃ W', ⌜∀ p ∈ W', p ∈ W ∨ p.2 = none ∨ p.2 = some (1 : Fin 2)⌝ ∗ owes (thrV d L) O W') := by
  have := tile_call d L (Memref.whole main_v3_scv) (Memref.isWhole_whole _) (Memref.whole main_arg1_scv) (Memref.isWhole_whole _) (Memref.whole main_arg3_scv) (Memref.isWhole_whole _)
    (Memref.whole main_v4_0_scv) (Memref.isWhole_whole _) (Memref.whole main_v4_1_scv) (Memref.isWhole_whole _) (Memref.whole cc1_scratch0) (Memref.isWhole_whole _)
    (Memref.whole cc1_scratch1) (Memref.isWhole_whole _) (Memref.whole cc1_scratch2) (Memref.isWhole_whole _) cc1_scratch3 cc1_scratch4 cc1_scoped0 cc1_scoped1 cc1_scoped2
    (leafQ (wL L)) (leafQ (wL L)) (ix1 d) (m (lc d main_arg1)) (m (lc d main_arg3)) (m (lc d main_v4_0)) (m (lc d main_v4_1))
    (fun x => by rw [row1_read]; exact h d _) O W hO 1 _ _ _ _
    (out1a d L (m (lc d main_arg1)) (ix1 d) (m (lc d main_v4_0))) (out1b d L (m (lc d main_arg3)) (ix1 d) (m (lc d main_v4_1)))
    (((K (F := F)).scopedBufs_V facts d (cV L) (jV L)).trans (ownBufs_three d L cc1_scratch0 cc1_scratch1 cc1_scratch2
      (by intro x hx; simp only [List.mem_cons, List.not_mem_nil, _root_.or_false] at hx; rcases hx with rfl | rfl | rfl <;> exact SparseCore.Cfg.mem_ownRefs_of_owner rfl)
      (by decide)))
    ((SparseCore.Cfg.scopedSems0_V (Val := Elt F) d (cV L) (jV L)).trans (ownSems0_five d L cc1_scratch3.sem cc1_scratch4.sem cc1_scoped0.sem cc1_scoped1.sem cc1_scoped2.sem (by decide) (by decide)))
  rw [row1_set, blk1a_set, blk1b_set] at this
  exact this

end Call1

/-- The coordinates of task `s` of core `c`, -/
def coordsV (c : Fin 2) (s : Fin 16) : grid0.Coords :=
  fun | 0 => c | 1 => s | ⟨_ + 2, h⟩ => absurd h (Nat.not_lt.2 (Nat.le_add_left _ _))
/-- whose number is the one the handshakes give it. -/
theorem wL_coordsV (c : Fin 2) (s : Fin 16) : wL (coordsV c s) = tk c s := by
  apply Fin.ext
  show 2 * s.val + c.val = c.val + 2 * s.val
  omega

theorem defs₀_vector0 (c : Fin τ.nSC) (s : Fin τ.nSub) :
    defs₀ (F := F) (.scVector c s) 0 ()
      = SparseCore.onTile hcore0 hsub0 (fun c s => cc0__sc_gather_body (coordsV c s)
          (Memref.whole main_v1_scv) (Memref.isWhole_whole _) (Memref.whole main_arg1_scv) (Memref.isWhole_whole _) (Memref.whole main_arg3_scv) (Memref.isWhole_whole _)
          (Memref.whole main_v2_0_scv) (Memref.isWhole_whole _) (Memref.whole main_v2_1_scv) (Memref.isWhole_whole _) (Memref.whole cc0_scratch0) (Memref.isWhole_whole _)
          (Memref.whole cc0_scratch1) (Memref.isWhole_whole _) (Memref.whole cc0_scratch2) (Memref.isWhole_whole _) cc0_scratch3 cc0_scratch4 cc0_scoped0 cc0_scoped1 cc0_scoped2) ⟨⟩ c s := rfl

/-- Every task of call 0 meets its obligation. -/
theorem tileObl0 (h : ∀ d x, (ix0 d x).toNat < 100000) : (K (F := F)).TileObl (D (F := F)) 𝒱 (P m ix0 ix1) v₀ 0 := by
  intro d c i O W hO _ _
  simp only [show (P m ix0 ix1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  have hb := tile_body0 m ix0 d (coordsV ⟨_, hci.1⟩ ⟨_, hci.2⟩) h O W hO
  rw [wL_coordsV] at hb
  exact hb

theorem defs₀_vector1 (c : Fin τ.nSC) (s : Fin τ.nSub) :
    defs₀ (F := F) (.scVector c s) 1 ()
      = SparseCore.onTile hcore1 hsub1 (fun c s => cc1__sc_gather_body (coordsV c s)
          (Memref.whole main_v3_scv) (Memref.isWhole_whole _) (Memref.whole main_arg1_scv) (Memref.isWhole_whole _) (Memref.whole main_arg3_scv) (Memref.isWhole_whole _)
          (Memref.whole main_v4_0_scv) (Memref.isWhole_whole _) (Memref.whole main_v4_1_scv) (Memref.isWhole_whole _) (Memref.whole cc1_scratch0) (Memref.isWhole_whole _)
          (Memref.whole cc1_scratch1) (Memref.isWhole_whole _) (Memref.whole cc1_scratch2) (Memref.isWhole_whole _) cc1_scratch3 cc1_scratch4 cc1_scoped0 cc1_scoped1 cc1_scoped2) ⟨⟩ c s := rfl

/-- Every task of call 1 meets its obligation. -/
theorem tileObl1 (h : ∀ d x, (ix1 d x).toNat < 100000) : (K (F := F)).TileObl (D (F := F)) 𝒱 (P m ix0 ix1) v₀ 1 := by
  intro d c i O W hO _ _
  simp only [show (P m ix0 ix1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  have hb := tile_body1 m ix1 d (coordsV ⟨_, hci.1⟩ ⟨_, hci.2⟩) h O W hO
  rw [wL_coordsV] at hb
  exact hb

end Cert.Proof.Sc

end
-- ==== Proof.Bodies.lean ====
/-
  One grid point of each TensorCore call's body: from its staged blocks it leaves in the results' blocks the
  values the printed arithmetic computes of them.
-/
module

public import proofs.«01_k».proof.Proof.ScBase
public import proofs.«01_k».proof.Proof.Gen.KernelIdeal.Points
public import Idealize.ShloMosaic.Lib.VecWindow

@[expose] public section

set_option maxRecDepth 16384

noncomputable section

namespace Cert.Proof.Tc

open Cert.KernelIdeal Cert.KernelIdeal.Gen Cert.Proof.Sc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-- A memref's buffer on core `c` held whole, at contents that read as `v`. -/
abbrev rd (c : Dev nD) {sp : Space} {S : Shape} {e : EltTy} (M : Memref sig .tc sp S e) (v : S.Idx → Elt F e) : sProp 𝕄 :=
  iprop(∃ f : Buf (Elt F) (M.view.loc (c : Thread nD τ)), ⌜M.view.read (Elt F) f = v⌝ ∗ M.view.loc (c : Thread nD τ) ↦{fullShare} f)

/-- The second call: the result's block at the printed value of the blocks of the inputs. -/
theorem bodyB_run (c : Dev nD) (i : grid3.Coords) (arg1 : Memref sig .tc .vmem S50x1 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1000x128 .bf16) (harg4 : arg4.IsWhole) (arg5 : Memref sig .tc .vmem S50x128 .bf16) (harg5 : arg5.IsWhole)
    (arg6 : Memref sig .tc .vmem S50x1000 .bf16) (harg6 : arg6.IsWhole) (arg7 : Memref sig .tc .vmem S50x1 .f32) (harg7 : arg7.IsWhole) (arg8 : Memref sig .tc .hbm S1000x8192 .f32) (harg8 : arg8.IsWhole)
    (arg9 : Memref sig .tc .vmem S1000x1024 .f32) (harg9 : arg9.IsWhole)
    (v1 : S50x1.Idx → Elt F .f32) (v2 v3 : S1024x128.Idx → Elt F .f32) (v4 : S1000x128.Idx → Elt F .bf16) (v5 : S50x128.Idx → Elt F .bf16) (v6 : S50x1000.Idx → Elt F .bf16) (v7 : S50x1.Idx → Elt F .f32)
    (v9 : S1000x1024.Idx → Elt F .f32) (E : Set ℕ) (Q : PUnit → sProp 𝕄) :
    iprop(rd c arg1 v1 ∗ rd c arg2 v2 ∗ rd c arg3 v3 ∗ rd c arg4 v4 ∗ rd c arg5 v5 ∗ rd c arg6 v6 ∗ rd c arg7 v7 ∗ rd c arg9 v9
      ∗ ((rd c arg1 v1 ∗ rd c arg2 v2 ∗ rd c arg3 v3 ∗ rd c arg4 v4 ∗ rd c arg5 v5 ∗ rd c arg6 v6 ∗ rd c arg7 v7 ∗ rd c arg9 (k3_pay1 v2 v3 v4 v6 v5 v1 v7 v6)) -∗ Q ⟨⟩))
      ⊢ wp frame (wpE (defs₀ (F := F)) 𝒱₀ (c : Thread nD τ) none) E
          (cc3__tc_body_b i arg1 harg1 arg2 harg2 arg3 harg3 arg4 harg4 arg5 harg5 arg6 harg6 arg7 harg7 arg8 harg8 arg9 harg9) Q := by
  rw [cc3__tc_body_b_eq_skeleton]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, Hk⟩
  unfold cc3__tc_body_b_skel
  sl_exec
  sl_step
  iapply Hk
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  isplitl [H7]; · iexists f7; isplitr; (· ipureintro; exact h7); iexact H7
  iexists _; isplitr; swap; (· iexact H9)
  ipureintro
  rw [View.read_writes_full, View.readAt_full, View.readAt_full, View.readAt_full, View.readAt_full, View.readAt_full, View.readAt_full, View.readAt_full,
    h1, h2, h3, h4, h5, h6, h7]

/-- The first call at its first point: the scratch column is computed, and both results' blocks are at the printed values; -/
theorem bodyA_run0 (c : Dev nD) (i : grid2.Coords) (hi : (i 0).val = 0) (arg1 : Memref sig .tc .vmem S50x1 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1000x128 .bf16) (harg4 : arg4.IsWhole) (arg5 : Memref sig .tc .vmem S50x128 .bf16) (harg5 : arg5.IsWhole)
    (arg6 : Memref sig .tc .vmem S50x1000 .bf16) (harg6 : arg6.IsWhole) (arg7 : Memref sig .tc .vmem S1000x1024 .f32) (harg7 : arg7.IsWhole) (arg8 : Memref sig .tc .vmem S50x1 .f32) (harg8 : arg8.IsWhole)
    (arg9 : Memref sig .tc .vmem S50x1 .f32) (harg9 : arg9.IsWhole)
    (v1 : S50x1.Idx → Elt F .f32) (v2 v3 : S1024x128.Idx → Elt F .f32) (v4 : S1000x128.Idx → Elt F .bf16) (v5 : S50x128.Idx → Elt F .bf16) (v6 : S50x1000.Idx → Elt F .bf16)
    (v7 : S1000x1024.Idx → Elt F .f32) (v8 v9 : S50x1.Idx → Elt F .f32) (E : Set ℕ) (Q : PUnit → sProp 𝕄) :
    iprop(rd c arg1 v1 ∗ rd c arg2 v2 ∗ rd c arg3 v3 ∗ rd c arg4 v4 ∗ rd c arg5 v5 ∗ rd c arg6 v6 ∗ rd c arg7 v7 ∗ rd c arg8 v8 ∗ rd c arg9 v9
      ∗ ((rd c arg1 v1 ∗ rd c arg2 v2 ∗ rd c arg3 v3 ∗ rd c arg4 v4 ∗ rd c arg5 v5 ∗ rd c arg6 v6
          ∗ rd c arg7 (k2_pay1 (k2_pay2 v2 v4) (k2_pay7 v2 v3 v4 v6 v5 v1 (k2_pay6 v2 v3 v4 v6 v5 v1)) v6) ∗ rd c arg8 (k2_pay6 v2 v3 v4 v6 v5 v1)
          ∗ rd c arg9 (k2_pay6 v2 v3 v4 v6 v5 v1)) -∗ Q ⟨⟩))
      ⊢ wp frame (wpE (defs₀ (F := F)) 𝒱₀ (c : Thread nD τ) none) E
          (cc2__tc_body_a i arg1 harg1 arg2 harg2 arg3 harg3 arg4 harg4 arg5 harg5 arg6 harg6 arg7 harg7 arg8 harg8 arg9 harg9) Q := by
  rw [cc2__tc_body_a_eq_skeleton]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  unfold cc2__tc_body_a_skel
  rw [k2_part1_eq_skeleton]; unfold k2_part1_skel
  have hb : Scalar.cmpi .ne (Scalar.extui (Scalar.cmpi .eq (BitVec.ofNat 32 (i 0).val) 0#32) : BitVec 32) 0#32 = 1#1 := by rw [hi]; decide
  sl_exec
  sl_step
  iapply Hk
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  have e1 := h1 ▸ View.readAt_full arg1.view f1 inb_S50x1_S50x1_0_0
  have e2 := h2 ▸ View.readAt_full arg2.view f2 inb_S1024x128_S1024x128_0_0
  have e3 := h3 ▸ View.readAt_full arg3.view f3 inb_S1024x128_S1024x128_0_0
  have e4 := h4 ▸ View.readAt_full arg4.view f4 inb_S1000x128_S1000x128_0_0
  have e5 := h5 ▸ View.readAt_full arg5.view f5 inb_S50x128_S50x128_0_0
  have e6 := h6 ▸ View.readAt_full arg6.view f6 inb_S50x1000_S50x1000_0_0
  have hv : bodyA_run0.sl.v23 c arg1 arg2 arg3 arg4 arg5 arg6 arg9 f1 f2 f3 f4 f5 f6 = k2_pay6 v2 v3 v4 v6 v5 v1 := by
    unfold bodyA_run0.sl.v23 bodyA_run0.sl.H9_1
    rw [View.readCov_full, e1, e2, e3, e4, e5, e6]
  isplitl [H7]
  · iexists _; isplitr; swap; (· iexact H7)
    ipureintro; rw [View.read_writes_full, hv, e1, e2, e3, e4, e5, e6]
  isplitl [H8]
  · iexists _; isplitr; swap; (· iexact H8)
    ipureintro; rw [View.read_writes_full, hv]
  iexists _; isplitr; swap; (· iexact H9)
  ipureintro; unfold bodyA_run0.sl.H9_1; rw [View.read_writes_full, e1, e2, e3, e4, e5, e6]

/-- and at a later point, where the scratch column holds what the first point left. -/
theorem bodyA_run1 (c : Dev nD) (i : grid2.Coords) (hi : (i 0).val ≠ 0) (hlt : (i 0).val < 4) (arg1 : Memref sig .tc .vmem S50x1 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1000x128 .bf16) (harg4 : arg4.IsWhole) (arg5 : Memref sig .tc .vmem S50x128 .bf16) (harg5 : arg5.IsWhole)
    (arg6 : Memref sig .tc .vmem S50x1000 .bf16) (harg6 : arg6.IsWhole) (arg7 : Memref sig .tc .vmem S1000x1024 .f32) (harg7 : arg7.IsWhole) (arg8 : Memref sig .tc .vmem S50x1 .f32) (harg8 : arg8.IsWhole)
    (arg9 : Memref sig .tc .vmem S50x1 .f32) (harg9 : arg9.IsWhole)
    (v1 : S50x1.Idx → Elt F .f32) (v2 v3 : S1024x128.Idx → Elt F .f32) (v4 : S1000x128.Idx → Elt F .bf16) (v5 : S50x128.Idx → Elt F .bf16) (v6 : S50x1000.Idx → Elt F .bf16)
    (v7 : S1000x1024.Idx → Elt F .f32) (v8 v9 : S50x1.Idx → Elt F .f32) (E : Set ℕ) (Q : PUnit → sProp 𝕄) :
    iprop(rd c arg1 v1 ∗ rd c arg2 v2 ∗ rd c arg3 v3 ∗ rd c arg4 v4 ∗ rd c arg5 v5 ∗ rd c arg6 v6 ∗ rd c arg7 v7 ∗ rd c arg8 v8 ∗ rd c arg9 v9
      ∗ ((rd c arg1 v1 ∗ rd c arg2 v2 ∗ rd c arg3 v3 ∗ rd c arg4 v4 ∗ rd c arg5 v5 ∗ rd c arg6 v6
          ∗ rd c arg7 (k2_pay1 (k2_pay2 v2 v4) (k2_pay7 v2 v3 v4 v6 v5 v1 v9) v6) ∗ rd c arg8 v9
          ∗ rd c arg9 v9) -∗ Q ⟨⟩))
      ⊢ wp frame (wpE (defs₀ (F := F)) 𝒱₀ (c : Thread nD τ) none) E
          (cc2__tc_body_a i arg1 harg1 arg2 harg2 arg3 harg3 arg4 harg4 arg5 harg5 arg6 harg6 arg7 harg7 arg8 harg8 arg9 harg9) Q := by
  rw [cc2__tc_body_a_eq_skeleton]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  unfold cc2__tc_body_a_skel
  rw [k2_part1_eq_skeleton]; unfold k2_part1_skel
  have hb : ¬ Scalar.cmpi .ne (Scalar.extui (Scalar.cmpi .eq (BitVec.ofNat 32 (i 0).val) 0#32) : BitVec 32) 0#32 = 1#1 := by
    generalize (i 0).val = n at hi hlt
    interval_cases n <;> first | exact absurd rfl hi | decide
  sl_exec
  sl_step
  iapply Hk
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  isplitl [H4]; · iexists f4; isplitr; (· ipureintro; exact h4); iexact H4
  isplitl [H5]; · iexists f5; isplitr; (· ipureintro; exact h5); iexact H5
  isplitl [H6]; · iexists f6; isplitr; (· ipureintro; exact h6); iexact H6
  have e1 := h1 ▸ View.readAt_full arg1.view f1 inb_S50x1_S50x1_0_0
  have e2 := h2 ▸ View.readAt_full arg2.view f2 inb_S1024x128_S1024x128_0_0
  have e3 := h3 ▸ View.readAt_full arg3.view f3 inb_S1024x128_S1024x128_0_0
  have e4 := h4 ▸ View.readAt_full arg4.view f4 inb_S1000x128_S1000x128_0_0
  have e5 := h5 ▸ View.readAt_full arg5.view f5 inb_S50x128_S50x128_0_0
  have e6 := h6 ▸ View.readAt_full arg6.view f6 inb_S50x1000_S50x1000_0_0
  have e9 := h9 ▸ View.readAt_full arg9.view f9 inb_S50x1_S50x1_0_0
  isplitl [H7]
  · iexists _; isplitr; swap; (· iexact H7)
    ipureintro; rw [View.read_writes_full, e1, e2, e3, e4, e5, e6, e9]
  isplitl [H8]
  · iexists _; isplitr; swap; (· iexact H8)
    ipureintro; rw [View.read_writes_full, e9]
  iexists f9; isplitr; (· ipureintro; exact h9)
  iexact H9

end Cert.Proof.Tc

end
-- ==== Proof.RegionA.lean ====
/-
  The first TensorCore call as a region of the program: entered with every array of the core at a valuation, left with
  its two results' arrays at what the four grid points compute of the inputs' blocks, and all else unchanged.
-/
module

public import proofs.«01_k».proof.Proof.Bodies
public import proofs.«01_k».proof.Proof.Gen.KernelIdeal.Launch
public import Idealize.ShloMosaic.Lib.Pipeline.FrameBody
public import Idealize.ShloMosaic.Lib.Pipeline.Regions
public import Idealize.ShloMosaic.Lib.Pipeline.ValueKit

@[expose] public section

set_option maxRecDepth 16384

noncomputable section

namespace Cert.Proof.Tc

open Cert.KernelIdeal Cert.KernelIdeal.Gen Cert.Proof.Sc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-- Contents of every array a TensorCore addresses. -/
abbrev Vals (F : FTy → Type) : Type := (c : Dev nD) → (b : Ref sig .tc) → Buf (Elt F) ((c : Thread nD τ).loc b)

/-- No table is prefetched. -/
abbrev adm : (p : Fin 2) → (pcfgs (F := F) p).Adm := fun p => (cfgs p).toPCfg_adm

variable (V : Vals F)

/-! ## What the call computes -/

/-- The blocks the call's six inputs have at a point: the scale column, the two gathered tables' rows, the item and the
    category embeddings, and the membership matrix. -/
def xA0 (c : Dev nD) (t : Fin cfg2.N) : S50x1.Idx → Elt F .f32 := ((cfg2.win 0).blk t).view.read (Elt F) (V c main_v7)
def xA1 (c : Dev nD) (t : Fin cfg2.N) : S1024x128.Idx → Elt F .f32 := ((cfg2.win 1).blk t).view.read (Elt F) (V c main_v2_0)
def xA2 (c : Dev nD) (t : Fin cfg2.N) : S1024x128.Idx → Elt F .f32 := ((cfg2.win 2).blk t).view.read (Elt F) (V c main_v2_1)
def xA3 (c : Dev nD) (t : Fin cfg2.N) : S1000x128.Idx → Elt F .bf16 := ((cfg2.win 3).blk t).view.read (Elt F) (V c main_v15)
def xA4 (c : Dev nD) (t : Fin cfg2.N) : S50x128.Idx → Elt F .bf16 := ((cfg2.win 4).blk t).view.read (Elt F) (V c main_v16)
def xA5 (c : Dev nD) (t : Fin cfg2.N) : S50x1000.Idx → Elt F .bf16 := ((cfg2.win 5).blk t).view.read (Elt F) (V c main_v25)

/-- The normaliser column: computed at the first point. -/
def colA (c : Dev nD) : S50x1.Idx → Elt F .f32 :=
  k2_pay6 (xA1 V c t2_0) (xA2 V c t2_0) (xA3 V c t2_0) (xA5 V c t2_0) (xA4 V c t2_0) (xA0 V c t2_0)

/-- The result's block at a point. -/
def outA (c : Dev nD) (t : Fin cfg2.N) : S1000x1024.Idx → Elt F .f32 :=
  k2_pay1 (k2_pay2 (xA1 V c t) (xA3 V c t)) (k2_pay7 (xA1 V c t) (xA2 V c t) (xA3 V c t) (xA5 V c t) (xA4 V c t) (xA0 V c t) (colA V c)) (xA5 V c t)

/-! ## The proof data -/

/-- The scoped buffers the call does not touch. -/
def restA (c : Dev nD) : sProp 𝕄 :=
  bigSepL [cc3_stg0_0, cc3_stg1_0, cc3_stg1_1, cc3_stg2_0, cc3_stg2_1, cc3_stg3_0, cc3_stg4_0, cc3_stg5_0, cc3_stg6_0, cc3_stg7_0, cc3_stg7_1]
    fun b => iprop(∃ f : Buf (Elt F) ((c : Thread nD τ).loc b), ((c : Thread nD τ).loc b) ↦{fullShare} f)

theorem scopedA (c : Dev nD) : (Pipeline.scopedRest spec2 c : sProp 𝕄)
    = iprop((∃ f : Buf (Elt F) ((c : Thread nD τ).loc cc2_scratch0), ((c : Thread nD τ).loc cc2_scratch0) ↦{fullShare} f) ∗ restA c) :=
  scopedRest2_eq c

/-- Before the first point the scratch column holds anything, after it the normaliser column. -/
def PhiA (c : Dev nD) (n : ℕ) : sProp 𝕄 :=
  iprop((∃ f : Buf (Elt F) ((Memref.whole cc2_scratch0).view.loc (c : Thread nD τ)),
      ⌜n ≠ 0 → (Memref.whole cc2_scratch0).view.read (Elt F) f = colA V c⌝ ∗ (Memref.whole cc2_scratch0).view.loc (c : Thread nD τ) ↦{fullShare} f) ∗ restA c)

/-- The pairs the core's waits have recorded before the calls: those at the levels of the two finished handshakes. -/
def recd (F : FTy → Type) [FloatOps F] (c : Dev nD) : Set (SemLoc sig × HIx 2) := {p | (K (F := F)).lev (SparseCore.T c, p.1) p.2 ≤ 16}

/-- The first call's proof data over the entry valuation. -/
def datA (c : Dev nD) : Dat τ (Elt F) (HIx 2) ℕ UU ℕ cfg2 c where
  A w := V c (Pipeline.arrRef spec2 w)
  after w t := match w with
    | ⟨0, _⟩ => xA0 V c t
    | ⟨1, _⟩ => xA1 V c t
    | ⟨2, _⟩ => xA2 V c t
    | ⟨3, _⟩ => xA3 V c t
    | ⟨4, _⟩ => xA4 V c t
    | ⟨5, _⟩ => xA5 V c t
    | ⟨6, _⟩ => outA V c t
    | ⟨7, _⟩ => colA V c
  Φ p := PhiA V c p.val
  q _ := fullShare
  owed _ := 0
  recorded _ := recd F c

/-- Proof data of a call that the present one does not run. -/
def idleDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- The two calls' proof data while the first runs. -/
def datsA : (p : Fin 2) → (c : Dev nD) → Dat τ (Elt F) (HIx 2) ℕ UU ℕ (Pipeline.pin (pcfgs (F := F)) adm p) c
  | ⟨0, _⟩ => fun c => datA V c
  | ⟨1, _⟩ => fun c => idleDat c

/-! ## What a point finds in its staging buffers -/

theorem beforeA0 (c : Dev nD) (t : Fin cfg2.N) (d) : (datA V c).before 0 t d = xA0 V c t :=
  (datA V c).before_in_eq_fetched 0 rfl (fun _ => rfl) (fun _ _ _ => rfl) (fun _ => rfl) t d
theorem beforeA1 (c : Dev nD) (t : Fin cfg2.N) (d) : (datA V c).before 1 t d = xA1 V c t :=
  (datA V c).before_in_eq_fetched 1 rfl (fun _ => rfl) (fun _ _ _ => rfl) (fun _ => rfl) t d
theorem beforeA2 (c : Dev nD) (t : Fin cfg2.N) (d) : (datA V c).before 2 t d = xA2 V c t :=
  (datA V c).before_in_eq_fetched 2 rfl (fun _ => rfl) (fun _ _ _ => rfl) (fun _ => rfl) t d
theorem beforeA3 (c : Dev nD) (t : Fin cfg2.N) (d) : (datA V c).before 3 t d = xA3 V c t :=
  (datA V c).before_in_eq_fetched 3 rfl (fun _ => rfl) (fun _ _ _ => rfl) (fun _ => rfl) t d
theorem beforeA4 (c : Dev nD) (t : Fin cfg2.N) (d) : (datA V c).before 4 t d = xA4 V c t :=
  (datA V c).before_in_eq_fetched 4 rfl (fun _ => rfl) (fun _ _ _ => rfl) (fun _ => rfl) t d
theorem beforeA5 (c : Dev nD) (t : Fin cfg2.N) (d) : (datA V c).before 5 t d = xA5 V c t :=
  (datA V c).before_in_eq_fetched 5 rfl (fun _ => rfl) (fun _ _ _ => rfl) (fun _ => rfl) t d

theorem coordA : ∀ t : Fin grid2.N, (grid2.coords t 0).val = t.val := by decide +kernel

/-- A whole memref owned at `X` is its buffer held whole at contents that read as `X`. -/
theorem owns_rd (c : Dev nD) {sp : Space} {S : Shape} {e : EltTy} (M : Memref sig .tc sp S e) (h : M.IsWhole) (X : S.Idx → Elt F e) :
    (owns (c : Thread nD τ) M fullShare X : sProp 𝕄) = rd c M X := by
  unfold owns rd; rw [h.set_eq_univ]

set_option maxHeartbeats 1600000 in
/-- The body at every point keeps the inputs' blocks and leaves the results' at the printed values. -/
theorem body_obligationA (c : Dev nD) : BodyObligation (datA V c) (defs₀ (F := F)) 𝒱₀ (default : HIx 2) Set.univ := fun t => by
  rw [bigSep_W2, bigSep_W2]
  simp only [fun s X => owns_rd (F := F) c (stage2_0 s) (hstage2_0 s) X, fun s X => owns_rd (F := F) c (stage2_1 s) (hstage2_1 s) X, fun s X => owns_rd (F := F) c (stage2_2 s) (hstage2_2 s) X,
    fun s X => owns_rd (F := F) c (stage2_3 s) (hstage2_3 s) X, fun s X => owns_rd (F := F) c (stage2_4 s) (hstage2_4 s) X, fun s X => owns_rd (F := F) c (stage2_5 s) (hstage2_5 s) X,
    fun s X => owns_rd (F := F) c (stage2_6 s) (hstage2_6 s) X, fun s X => owns_rd (F := F) c (stage2_7 s) (hstage2_7 s) X]
  rw [show (datA V c).Φ t.castSucc = PhiA V c t.val from rfl, show (datA V c).Φ t.succ = PhiA V c (t.val + 1) from rfl,
    show (datA V c).owesAt default t.succ = (datA V c).owesAt default t.castSucc from rfl]
  unfold PhiA
  iintro ⟨⟨⟨%f9, %h9, H9⟩, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  rw [beforeA0] at hf0; rw [beforeA1] at hf1; rw [beforeA2] at hf2; rw [beforeA3] at hf3; rw [beforeA4] at hf4; rw [beforeA5] at hf5
  by_cases ht : t.val = 0
  · obtain rfl : t = t2_0 := Fin.ext ht
    iapply (bodyA_run0 c (grid2.coords t2_0) (by rw [coordA]; rfl) (st2_0 t2_0) _ (st2_1 t2_0) _ (st2_2 t2_0) _ (st2_3 t2_0) _ (st2_4 t2_0) _ (st2_5 t2_0) _ (st2_6 t2_0) _ (st2_7 t2_0) _
      (Memref.whole cc2_scratch0) _ (xA0 V c t2_0) (xA1 V c t2_0) (xA2 V c t2_0) (xA3 V c t2_0) (xA4 V c t2_0) (xA5 V c t2_0) _ _ _ Set.univ _)
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    isplitl [H4]; · iexists f4; isplitr; (· ipureintro; exact hf4); iexact H4
    isplitl [H5]; · iexists f5; isplitr; (· ipureintro; exact hf5); iexact H5
    isplitl [H6]; · iexists f6; isplitr; swap; (· iexact H6); ipureintro; rfl
    isplitl [H7]; · iexists f7; isplitr; swap; (· iexact H7); ipureintro; rfl
    isplitl [H9]; · iexists f9; isplitr; swap; (· iexact H9); ipureintro; rfl
    iintro ⟨H0, H1, H2, H3, H4, H5, H6, H7, ⟨%g9, %hg9, H9⟩⟩
    isplitl [H9 HR]
    · isplitl [H9]
      · iexists g9; isplitr; (· ipureintro; exact fun _ => hg9); iexact H9
      iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h4 : t.val < 4 := lt_of_lt_of_eq t.isLt N_2
    iapply (bodyA_run1 c (grid2.coords t) (by rw [coordA]; exact ht) (by rw [coordA]; exact h4) (st2_0 t) _ (st2_1 t) _ (st2_2 t) _ (st2_3 t) _ (st2_4 t) _ (st2_5 t) _ (st2_6 t) _ (st2_7 t) _
      (Memref.whole cc2_scratch0) _ (xA0 V c t) (xA1 V c t) (xA2 V c t) (xA3 V c t) (xA4 V c t) (xA5 V c t) _ _ (colA V c) Set.univ _)
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    isplitl [H4]; · iexists f4; isplitr; (· ipureintro; exact hf4); iexact H4
    isplitl [H5]; · iexists f5; isplitr; (· ipureintro; exact hf5); iexact H5
    isplitl [H6]; · iexists f6; isplitr; swap; (· iexact H6); ipureintro; rfl
    isplitl [H7]; · iexists f7; isplitr; swap; (· iexact H7); ipureintro; rfl
    isplitl [H9]; · iexists f9; isplitr; swap; (· iexact H9); ipureintro; exact h9 ht
    iintro ⟨H0, H1, H2, H3, H4, H5, H6, H7, ⟨%g9, %hg9, H9⟩⟩
    isplitl [H9 HR]
    · isplitl [H9]
      · iexists g9; isplitr; (· ipureintro; exact fun _ => hg9); iexact H9
      iexact HR
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The region -/

/-- The core owes nothing, and what its waits have recorded lies at the finished handshakes' levels. -/
def quiet (c : Dev nD) : sProp 𝕄 :=
  iprop(∃ W, ⌜(K (F := F)).WBelow (SparseCore.T c) W 16⌝ ∗ owes (c : Thread nD τ) (0 : CellTallies nD τ sig (HIx 2)) W)

theorem quiet_intro (c : Dev nD) {cfg : Cfg sig Λ₀} (W : Waits sig (HIx 2)) (h : ↑W ⊆ recd F c ∪ cfg.waitPairs (default : HIx 2)) :
    (K (F := F)).WBelow (SparseCore.T c) W 16 := fun p hp => by
  rcases h hp with h | ⟨w, s, rfl⟩
  · exact h
  · exact Nat.zero_le _

/-- The arrays after the call: the first result's blocks 0–3 at what the points left, the second at the normaliser
    column, every other array unchanged. -/
def valsA (c : Dev nD) (b : Ref sig .tc) : Buf (Elt F) ((c : Thread nD τ).loc b) :=
  Function.update (Function.update (V c) main_v26_0 ((datA V c).arrAt 6 cfg2.N)) main_v26_1 ((datA V c).arrAt 7 cfg2.N) b

theorem valsA_out (c : Dev nD) : valsA V c main_v26_0 = (datA V c).arrAt 6 cfg2.N := by
  unfold valsA; rw [Function.update_of_ne (by decide), Function.update_self]
theorem valsA_col (c : Dev nD) : valsA V c main_v26_1 = (datA V c).arrAt 7 cfg2.N := by
  unfold valsA; rw [Function.update_self]
theorem valsA_ne (c : Dev nD) (b : Ref sig .tc) (h0 : b ≠ main_v26_0) (h1 : b ≠ main_v26_1) : valsA V c b = V c b := by
  unfold valsA; rw [Function.update_of_ne h1, Function.update_of_ne h0]

set_option maxHeartbeats 1600000 in
set_option backward.isDefEq.respectTransparency.types false in
/-- The first call, entered from every array at `V`. -/
def regA : Pipeline.RegionSeg (pcfgs (F := F)) adm (datsA V) (default : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligationA V c).loose
  hwaits := Pipeline.hwaits_of_owed_zero _ _ _ _ _ _ 0 fun _ _ => rfl
  pre c := iprop(unscopedBufs c (V c) ∗ quiet c)
  post c := iprop(unscopedBufs c (valsA V c) ∗ quiet c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (datsA V) launch2.win launch2.arr_whole c
      ((datsA V 0 c).share_full fun _ => rfl) (V c) fun _ => rfl
    unfold quiet
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (datsA V 0 c).Φ 0 = PhiA V c 0 from rfl]
    rw [show Pipeline.scopedRest (Ix := HIx 2) (Name := ℕ) (U := UU) (Lvl := ℕ) (Val := Elt F) (Pipeline.pin (pcfgs (F := F)) adm 0).spec c = _ from scopedA c]
    unfold PhiA
    iintro ⟨-, -, ⟨%f, Hs⟩, Hr⟩
    isplitl [Hs]
    · iexists f; isplitr; · ipureintro; exact fun h => absurd rfl h
      iexact Hs
    iexact Hr
  hout c := by
    rw [Pipeline.ownSems0_none, show (datsA V 0 c).Φ (Fin.last _) = PhiA V c cfg2.N from rfl]
    rw [show Pipeline.scopedRest (Ix := HIx 2) (Name := ℕ) (U := UU) (Lvl := ℕ) (Val := Elt F) (Pipeline.pin (pcfgs (F := F)) adm 0).spec c = _ from scopedA c]
    unfold PhiA
    iintro ⟨⟨%f, -, Hs⟩, Hr⟩
    isplitr; · iempintro
    isplitr; · iempintro
    isplitl [Hs]; · iexists f; iexact Hs
    iexact Hr
  hexit c := by
    have hjoin := Pipeline.unscopedBufs_of_arrays (p := 0) (pcfgs (F := F)) adm (Ix := HIx 2) (Name := ℕ) (U := UU) (Lvl := ℕ) launch2.win launch2.arr_whole c
      (datsA V) ((datsA V 0 c).share_full fun _ => rfl) (V c) (valsA V c) ((datsA V 0 c).arrAt · cfg2.N)
      (fun w => by
        fin_cases w
        · exact ((datsA V 0 c).arrAt_in 0 rfl _).trans (valsA_ne V c main_v7 (by decide) (by decide)).symm
        · exact ((datsA V 0 c).arrAt_in 1 rfl _).trans (valsA_ne V c main_v2_0 (by decide) (by decide)).symm
        · exact ((datsA V 0 c).arrAt_in 2 rfl _).trans (valsA_ne V c main_v2_1 (by decide) (by decide)).symm
        · exact ((datsA V 0 c).arrAt_in 3 rfl _).trans (valsA_ne V c main_v15 (by decide) (by decide)).symm
        · exact ((datsA V 0 c).arrAt_in 4 rfl _).trans (valsA_ne V c main_v16 (by decide) (by decide)).symm
        · exact ((datsA V 0 c).arrAt_in 5 rfl _).trans (valsA_ne V c main_v25 (by decide) (by decide)).symm
        · exact (valsA_out V c).symm
        · exact (valsA_col V c).symm)
      (fun b hb => valsA_ne V c b (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin quiet
    icases HO with ⟨%W, %hW, HO⟩; iexists W; isplitr; · ipureintro; exact quiet_intro c W hW
    iexact HO

end Cert.Proof.Tc

end
-- ==== Proof.RegionB.lean ====
/-
  The second TensorCore call as a region of the program: entered with every array of the core at a valuation, left with
  blocks 4–7 of its result's array at what the four grid points compute of the inputs' blocks, and all else unchanged.
-/
module

public import proofs.«01_k».proof.Proof.RegionA

@[expose] public section

set_option maxRecDepth 16384

noncomputable section

namespace Cert.Proof.Tc

open Cert.KernelIdeal Cert.KernelIdeal.Gen Cert.Proof.Sc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

variable (V : Vals F)

/-! ## What the call computes -/

/-- The blocks the call's seven inputs have at a point: as the first call's, and the normaliser column. -/
def xB0 (c : Dev nD) (t : Fin cfg3.N) : S50x1.Idx → Elt F .f32 := ((cfg3.win 0).blk t).view.read (Elt F) (V c main_v7)
def xB1 (c : Dev nD) (t : Fin cfg3.N) : S1024x128.Idx → Elt F .f32 := ((cfg3.win 1).blk t).view.read (Elt F) (V c main_v4_0)
def xB2 (c : Dev nD) (t : Fin cfg3.N) : S1024x128.Idx → Elt F .f32 := ((cfg3.win 2).blk t).view.read (Elt F) (V c main_v4_1)
def xB3 (c : Dev nD) (t : Fin cfg3.N) : S1000x128.Idx → Elt F .bf16 := ((cfg3.win 3).blk t).view.read (Elt F) (V c main_v15)
def xB4 (c : Dev nD) (t : Fin cfg3.N) : S50x128.Idx → Elt F .bf16 := ((cfg3.win 4).blk t).view.read (Elt F) (V c main_v16)
def xB5 (c : Dev nD) (t : Fin cfg3.N) : S50x1000.Idx → Elt F .bf16 := ((cfg3.win 5).blk t).view.read (Elt F) (V c main_v25)
def xB6 (c : Dev nD) (t : Fin cfg3.N) : S50x1.Idx → Elt F .f32 := ((cfg3.win 6).blk t).view.read (Elt F) (V c main_v26_1)

/-- The result's block at a point. -/
def outB (c : Dev nD) (t : Fin cfg3.N) : S1000x1024.Idx → Elt F .f32 :=
  k3_pay1 (xB1 V c t) (xB2 V c t) (xB3 V c t) (xB5 V c t) (xB4 V c t) (xB0 V c t) (xB6 V c t) (xB5 V c t)

/-! ## The proof data -/

/-- The second call's proof data over the entry valuation. -/
def datB (c : Dev nD) : Dat τ (Elt F) (HIx 2) ℕ UU ℕ cfg3 c where
  A w := V c (Pipeline.arrRef spec3 w)
  after w t := match w with
    | ⟨0, _⟩ => xB0 V c t
    | ⟨1, _⟩ => xB1 V c t
    | ⟨2, _⟩ => xB2 V c t
    | ⟨3, _⟩ => xB3 V c t
    | ⟨4, _⟩ => xB4 V c t
    | ⟨5, _⟩ => xB5 V c t
    | ⟨6, _⟩ => xB6 V c t
    | ⟨7, _⟩ => outB V c t
  Φ _ := Pipeline.scopedRest spec3 c
  q _ := fullShare
  owed _ := 0
  recorded _ := recd F c

/-- The two calls' proof data while the second runs. -/
def datsB : (p : Fin 2) → (c : Dev nD) → Dat τ (Elt F) (HIx 2) ℕ UU ℕ (Pipeline.pin (pcfgs (F := F)) adm p) c
  | ⟨0, _⟩ => fun c => idleDat c
  | ⟨1, _⟩ => fun c => datB V c

/-! ## What a point finds in its staging buffers -/

theorem beforeB0 (c : Dev nD) (t : Fin cfg3.N) (d) : (datB V c).before 0 t d = xB0 V c t :=
  (datB V c).before_in_eq_fetched 0 rfl (fun _ => rfl) (fun _ _ _ => rfl) (fun _ => rfl) t d
theorem beforeB1 (c : Dev nD) (t : Fin cfg3.N) (d) : (datB V c).before 1 t d = xB1 V c t :=
  (datB V c).before_in_eq_fetched 1 rfl (fun _ => rfl) (fun _ _ _ => rfl) (fun _ => rfl) t d
theorem beforeB2 (c : Dev nD) (t : Fin cfg3.N) (d) : (datB V c).before 2 t d = xB2 V c t :=
  (datB V c).before_in_eq_fetched 2 rfl (fun _ => rfl) (fun _ _ _ => rfl) (fun _ => rfl) t d
theorem beforeB3 (c : Dev nD) (t : Fin cfg3.N) (d) : (datB V c).before 3 t d = xB3 V c t :=
  (datB V c).before_in_eq_fetched 3 rfl (fun _ => rfl) (fun _ _ _ => rfl) (fun _ => rfl) t d
theorem beforeB4 (c : Dev nD) (t : Fin cfg3.N) (d) : (datB V c).before 4 t d = xB4 V c t :=
  (datB V c).before_in_eq_fetched 4 rfl (fun _ => rfl) (fun _ _ _ => rfl) (fun _ => rfl) t d
theorem beforeB5 (c : Dev nD) (t : Fin cfg3.N) (d) : (datB V c).before 5 t d = xB5 V c t :=
  (datB V c).before_in_eq_fetched 5 rfl (fun _ => rfl) (fun _ _ _ => rfl) (fun _ => rfl) t d
theorem beforeB6 (c : Dev nD) (t : Fin cfg3.N) (d) : (datB V c).before 6 t d = xB6 V c t :=
  (datB V c).before_in_eq_fetched 6 rfl (fun _ => rfl) (fun _ _ _ => rfl) (fun _ => rfl) t d

set_option maxHeartbeats 1600000 in
/-- The body at every point keeps the inputs' blocks and leaves the result's at the printed value. -/
theorem body_obligationB (c : Dev nD) : BodyObligation (datB V c) (defs₀ (F := F)) 𝒱₀ (default : HIx 2) Set.univ := fun t => by
  rw [bigSep_W3, bigSep_W3]
  simp only [fun s X => owns_rd (F := F) c (stage3_0 s) (hstage3_0 s) X, fun s X => owns_rd (F := F) c (stage3_1 s) (hstage3_1 s) X, fun s X => owns_rd (F := F) c (stage3_2 s) (hstage3_2 s) X,
    fun s X => owns_rd (F := F) c (stage3_3 s) (hstage3_3 s) X, fun s X => owns_rd (F := F) c (stage3_4 s) (hstage3_4 s) X, fun s X => owns_rd (F := F) c (stage3_5 s) (hstage3_5 s) X,
    fun s X => owns_rd (F := F) c (stage3_6 s) (hstage3_6 s) X, fun s X => owns_rd (F := F) c (stage3_7 s) (hstage3_7 s) X]
  rw [show (datB V c).Φ t.succ = (datB V c).Φ t.castSucc from rfl, show (datB V c).owesAt default t.succ = (datB V c).owesAt default t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  rw [beforeB0] at hf0; rw [beforeB1] at hf1; rw [beforeB2] at hf2; rw [beforeB3] at hf3; rw [beforeB4] at hf4; rw [beforeB5] at hf5; rw [beforeB6] at hf6
  iapply (bodyB_run c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (Memref.whole main_v26_0) (Memref.isWhole_whole _) (st3_7 t) (hstage3_7 ((cfg3.slots t 7).cast nbuf3_7))
    (xB0 V c t) (xB1 V c t) (xB2 V c t) (xB3 V c t) (xB4 V c t) (xB5 V c t) (xB6 V c t) _ Set.univ _)
  isplitl [H0]; · iexists f0; isplitr; (· ipureintro; exact hf0); iexact H0
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; swap; (· iexact H7); ipureintro; rfl
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region -/

/-- The arrays after the call: the result's at what the points wrote back over it, every other array unchanged. -/
def valsB (c : Dev nD) (b : Ref sig .tc) : Buf (Elt F) ((c : Thread nD τ).loc b) :=
  Function.update (V c) main_v27 ((datB V c).arrAt 7 cfg3.N) b

theorem valsB_out (c : Dev nD) : valsB V c main_v27 = (datB V c).arrAt 7 cfg3.N := by
  unfold valsB; rw [Function.update_self]
theorem valsB_ne (c : Dev nD) (b : Ref sig .tc) (h : b ≠ main_v27) : valsB V c b = V c b := by
  unfold valsB; rw [Function.update_of_ne h]

set_option maxHeartbeats 1600000 in
set_option backward.isDefEq.respectTransparency.types false in
/-- The second call, entered from every array at `V`. -/
def regB : Pipeline.RegionSeg (pcfgs (F := F)) adm (datsB V) (default : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligationB V c).loose
  hwaits := Pipeline.hwaits_of_owed_zero _ _ _ _ _ _ 1 fun _ _ => rfl
  pre c := iprop(unscopedBufs c (V c) ∗ quiet c)
  post c := iprop(unscopedBufs c (valsB V c) ∗ quiet c)
  X _ := BI.emp
  Y _ := BI.emp
  Z c := Pipeline.unscopedRest (Ix := HIx 2) (Name := ℕ) (U := UU) (Lvl := ℕ) spec3 c (V c)
  hentry c := by
    rw [Pipeline.ownSems0_none]
    have hsplit := Pipeline.arrays_of_unscopedBufs (p := 1) (pcfgs (F := F)) adm (datsB V) launch3.win launch3.arr_whole c
      ((datsB V 1 c).share_full fun _ => rfl) (V c) fun _ => rfl
    unfold quiet
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (datsB V 1 c).Φ 0 = Pipeline.scopedRest spec3 c from rfl]
    iintro ⟨-, -, Hr⟩; iexact Hr
  hout c := by
    rw [Pipeline.ownSems0_none, show (datsB V 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (datsB V) ((datsB V 1 c).share_full fun _ => rfl) (V c) (valsB V c) ((datsB V 1 c).arrAt · cfg3.N)
      (fun w => by
        fin_cases w
        · exact ((datsB V 1 c).arrAt_in 0 rfl _).trans (valsB_ne V c main_v7 (by decide)).symm
        · exact ((datsB V 1 c).arrAt_in 1 rfl _).trans (valsB_ne V c main_v4_0 (by decide)).symm
        · exact ((datsB V 1 c).arrAt_in 2 rfl _).trans (valsB_ne V c main_v4_1 (by decide)).symm
        · exact ((datsB V 1 c).arrAt_in 3 rfl _).trans (valsB_ne V c main_v15 (by decide)).symm
        · exact ((datsB V 1 c).arrAt_in 4 rfl _).trans (valsB_ne V c main_v16 (by decide)).symm
        · exact ((datsB V 1 c).arrAt_in 5 rfl _).trans (valsB_ne V c main_v25 (by decide)).symm
        · exact ((datsB V 1 c).arrAt_in 6 rfl _).trans (valsB_ne V c main_v26_1 (by decide)).symm
        · exact (valsB_out V c).symm)
      (fun b hb => valsB_ne V c b (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin quiet
    icases HO with ⟨%W, %hW, HO⟩; iexists W; isplitr; · ipureintro; exact quiet_intro c W hW
    iexact HO

end Cert.Proof.Tc

end
-- ==== Proof.HostOps.lean ====
/-
  The program's host operations as the stretches they run in between the calls: what each stretch writes, that each
  touches unscoped arrays only, and the program as stretches and calls in order.
-/
module

public import proofs.«01_k».proof.Proof.ScBase

@[expose] public section

set_option maxRecDepth 16384

noncomputable section

namespace Cert.Proof.Run

open Cert.KernelIdeal Cert.KernelIdeal.Gen Cert.Proof.Sc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Before the first gather: the sessions' rows, and the first half of them. -/
abbrev opsA : List (HloOp τ sig (Elt F)) :=
  [StableHlo.reshape main_arg0 main_v0 (rfl : (.i32 : EltTy) = .i32) shapeCasts_S8192_S64x128,
   StableHlo.unary main_v0 main_v1 ((extractStridedSlice S32x128 ![0, 0] · slices_S64x128_S32x128_0_0) : (⟨S64x128, .i32⟩ : BufTy).Contents (Elt F) → (⟨S32x128, .i32⟩ : BufTy).Contents (Elt F))]

/-- The arrays they write. -/
abbrev wrA : List (Ref sig .tc) := [main_v0, main_v1]

/-- Between the gathers: the second half. -/
abbrev opsB : List (HloOp τ sig (Elt F)) :=
  [StableHlo.unary main_v0 main_v3 ((extractStridedSlice S32x128 ![32, 0] · slices_S64x128_S32x128_32_0) : (⟨S64x128, .i32⟩ : BufTy).Contents (Elt F) → (⟨S32x128, .i32⟩ : BufTy).Contents (Elt F))]

/-- The arrays they write. -/
abbrev wrB : List (Ref sig .tc) := [main_v3]

/-- Between the gathers and the fused calls: the intercepts, the scaled and narrowed coefficients, and the category mask. -/
abbrev opsC : List (HloOp τ sig (Elt F)) :=
  [StableHlo.nullary main_cst (constant S_ .f32 0x3F800000#32),
   StableHlo.unary main_cst main_v5 (broadcastInDim S50 ![] bcast_S_S50 : (⟨S_, .f32⟩ : BufTy).Contents (Elt F) → (⟨S50, .f32⟩ : BufTy).Contents (Elt F)),
   StableHlo.binary main_arg5 main_v5 main_v6 (subf : (⟨S50, .f32⟩ : BufTy).Contents (Elt F) → (⟨S50, .f32⟩ : BufTy).Contents (Elt F) → (⟨S50, .f32⟩ : BufTy).Contents (Elt F)),
   StableHlo.reshape main_v6 main_v7 (rfl : (.f32 : EltTy) = .f32) shapeCasts_S50_S50x1,
   StableHlo.unary main_arg5 main_v8 (broadcastInDim S50x20 ![0] bcast_S50_S50x20_0 : (⟨S50, .f32⟩ : BufTy).Contents (Elt F) → (⟨S50x20, .f32⟩ : BufTy).Contents (Elt F)),
   StableHlo.reshape main_v8 main_v9 (rfl : (.f32 : EltTy) = .f32) shapeCasts_S50x20_S1000,
   StableHlo.nullary main_cst_0 (constant S_ .f32 0x3F800000#32),
   StableHlo.unary main_cst_0 main_v10 (broadcastInDim S1000 ![] bcast_S_S1000 : (⟨S_, .f32⟩ : BufTy).Contents (Elt F) → (⟨S1000, .f32⟩ : BufTy).Contents (Elt F)),
   StableHlo.binary main_v10 main_v9 main_v11 (Host.divf : (⟨S1000, .f32⟩ : BufTy).Contents (Elt F) → (⟨S1000, .f32⟩ : BufTy).Contents (Elt F) → (⟨S1000, .f32⟩ : BufTy).Contents (Elt F)),
   StableHlo.reshape main_v11 main_v12 (rfl : (.f32 : EltTy) = .f32) shapeCasts_S1000_S1000x1,
   StableHlo.unary main_v12 main_v13 (broadcastInDim S1000x128 ![0, 1] bcast_S1000x1_S1000x128_0_1 : (⟨S1000x1, .f32⟩ : BufTy).Contents (Elt F) → (⟨S1000x128, .f32⟩ : BufTy).Contents (Elt F)),
   StableHlo.binary main_arg2 main_v13 main_v14 (mulf : (⟨S1000x128, .f32⟩ : BufTy).Contents (Elt F) → (⟨S1000x128, .f32⟩ : BufTy).Contents (Elt F) → (⟨S1000x128, .f32⟩ : BufTy).Contents (Elt F)),
   StableHlo.unary main_v14 main_v15 ((truncf .bf16 · bitsLt_bf16_f32) : (⟨S1000x128, .f32⟩ : BufTy).Contents (Elt F) → (⟨S1000x128, .bf16⟩ : BufTy).Contents (Elt F)),
   StableHlo.unary main_arg4 main_v16 ((truncf .bf16 · bitsLt_bf16_f32) : (⟨S50x128, .f32⟩ : BufTy).Contents (Elt F) → (⟨S50x128, .bf16⟩ : BufTy).Contents (Elt F)),
   StableHlo.nullary main_v17 (iotaInDim S1000 32 0),
   StableHlo.unary main_v17 main_v18 (broadcastInDim S1x1000 ![1] bcast_S1000_S1x1000_1 : (⟨S1000, .i32⟩ : BufTy).Contents (Elt F) → (⟨S1x1000, .i32⟩ : BufTy).Contents (Elt F)),
   StableHlo.nullary main_c (constantI S_ 32 20#32),
   StableHlo.unary main_c main_call0_v0 (id : (⟨S_, .i32⟩ : BufTy).Contents (Elt F) → (⟨S_, .i32⟩ : BufTy).Contents (Elt F)),
   StableHlo.unary main_call0_v0 main_call0_v1 (broadcastInDim S1x1000 ![] bcast_S_S1x1000 : (⟨S_, .i32⟩ : BufTy).Contents (Elt F) → (⟨S1x1000, .i32⟩ : BufTy).Contents (Elt F)),
   StableHlo.binary main_v18 main_call0_v1 main_call0_v2 (Host.divsi : (⟨S1x1000, .i32⟩ : BufTy).Contents (Elt F) → (⟨S1x1000, .i32⟩ : BufTy).Contents (Elt F) → (⟨S1x1000, .i32⟩ : BufTy).Contents (Elt F)),
   StableHlo.unary main_v18 main_call0_v3 (signi : (⟨S1x1000, .i32⟩ : BufTy).Contents (Elt F) → (⟨S1x1000, .i32⟩ : BufTy).Contents (Elt F)),
   StableHlo.unary main_call0_v0 main_call0_v4 (signi : (⟨S_, .i32⟩ : BufTy).Contents (Elt F) → (⟨S_, .i32⟩ : BufTy).Contents (Elt F)),
   StableHlo.unary main_call0_v4 main_call0_v5 (broadcastInDim S1x1000 ![] bcast_S_S1x1000 : (⟨S_, .i32⟩ : BufTy).Contents (Elt F) → (⟨S1x1000, .i32⟩ : BufTy).Contents (Elt F)),
   StableHlo.binary main_call0_v3 main_call0_v5 main_call0_v6 (cmpi .ne : (⟨S1x1000, .i32⟩ : BufTy).Contents (Elt F) → (⟨S1x1000, .i32⟩ : BufTy).Contents (Elt F) → (⟨S1x1000, .i1⟩ : BufTy).Contents (Elt F)),
   StableHlo.unary main_call0_v0 main_call0_v7 (broadcastInDim S1x1000 ![] bcast_S_S1x1000 : (⟨S_, .i32⟩ : BufTy).Contents (Elt F) → (⟨S1x1000, .i32⟩ : BufTy).Contents (Elt F)),
   StableHlo.binary main_v18 main_call0_v7 main_call0_v8 (Host.remsi : (⟨S1x1000, .i32⟩ : BufTy).Contents (Elt F) → (⟨S1x1000, .i32⟩ : BufTy).Contents (Elt F) → (⟨S1x1000, .i32⟩ : BufTy).Contents (Elt F)),
   StableHlo.nullary main_call0_c (constantI S_ 32 0#32),
   StableHlo.unary main_call0_c main_call0_v9 (broadcastInDim S1x1000 ![] bcast_S_S1x1000 : (⟨S_, .i32⟩ : BufTy).Contents (Elt F) → (⟨S1x1000, .i32⟩ : BufTy).Contents (Elt F)),
   StableHlo.binary main_call0_v8 main_call0_v9 main_call0_v10 (cmpi .ne : (⟨S1x1000, .i32⟩ : BufTy).Contents (Elt F) → (⟨S1x1000, .i32⟩ : BufTy).Contents (Elt F) → (⟨S1x1000, .i1⟩ : BufTy).Contents (Elt F)),
   StableHlo.binary main_call0_v6 main_call0_v10 main_call0_v11 (andi : (⟨S1x1000, .i1⟩ : BufTy).Contents (Elt F) → (⟨S1x1000, .i1⟩ : BufTy).Contents (Elt F) → (⟨S1x1000, .i1⟩ : BufTy).Contents (Elt F)),
   StableHlo.nullary main_call0_c_0 (constantI S_ 32 1#32),
   StableHlo.unary main_call0_c_0 main_call0_v12 (broadcastInDim S1x1000 ![] bcast_S_S1x1000 : (⟨S_, .i32⟩ : BufTy).Contents (Elt F) → (⟨S1x1000, .i32⟩ : BufTy).Contents (Elt F)),
   StableHlo.binary main_call0_v2 main_call0_v12 main_call0_v13 (subi : (⟨S1x1000, .i32⟩ : BufTy).Contents (Elt F) → (⟨S1x1000, .i32⟩ : BufTy).Contents (Elt F) → (⟨S1x1000, .i32⟩ : BufTy).Contents (Elt F)),
   StableHlo.ternary main_call0_v11 main_call0_v13 main_call0_v2 main_v19 (select : (⟨S1x1000, .i1⟩ : BufTy).Contents (Elt F) → (⟨S1x1000, .i32⟩ : BufTy).Contents (Elt F) → (⟨S1x1000, .i32⟩ : BufTy).Contents (Elt F) → (⟨S1x1000, .i32⟩ : BufTy).Contents (Elt F)),
   StableHlo.nullary main_v20 (iotaInDim S50 32 0),
   StableHlo.unary main_v20 main_v21 (broadcastInDim S50x1 ![0] bcast_S50_S50x1_0 : (⟨S50, .i32⟩ : BufTy).Contents (Elt F) → (⟨S50x1, .i32⟩ : BufTy).Contents (Elt F)),
   StableHlo.unary main_v19 main_v22 (broadcastInDim S50x1000 ![0, 1] bcast_S1x1000_S50x1000_0_1 : (⟨S1x1000, .i32⟩ : BufTy).Contents (Elt F) → (⟨S50x1000, .i32⟩ : BufTy).Contents (Elt F)),
   StableHlo.unary main_v21 main_v23 (broadcastInDim S50x1000 ![0, 1] bcast_S50x1_S50x1000_0_1 : (⟨S50x1, .i32⟩ : BufTy).Contents (Elt F) → (⟨S50x1000, .i32⟩ : BufTy).Contents (Elt F)),
   StableHlo.binary main_v22 main_v23 main_v24 (cmpi .eq : (⟨S50x1000, .i32⟩ : BufTy).Contents (Elt F) → (⟨S50x1000, .i32⟩ : BufTy).Contents (Elt F) → (⟨S50x1000, .i1⟩ : BufTy).Contents (Elt F)),
   StableHlo.unary main_v24 main_v25 (uitofp .bf16 : (⟨S50x1000, .i1⟩ : BufTy).Contents (Elt F) → (⟨S50x1000, .bf16⟩ : BufTy).Contents (Elt F))]

/-- The arrays they write. -/
abbrev wrC : List (Ref sig .tc) := [main_cst, main_v5, main_v6, main_v7, main_v8, main_v9, main_cst_0, main_v10, main_v11, main_v12, main_v13, main_v14, main_v15, main_v16, main_v17, main_v18, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v19, main_v20, main_v21, main_v22, main_v23, main_v24, main_v25]

/-- Between the fused calls: the output so far, copied. -/
abbrev opsD : List (HloOp τ sig (Elt F)) :=
  [StableHlo.unary main_v26_0 main_v27 id]

/-- The arrays they write. -/
abbrev wrD : List (Ref sig .tc) := [main_v27]

/-- At the end: the transposed output. -/
abbrev opsE : List (HloOp τ sig (Elt F)) :=
  [StableHlo.unary main_v27 main_v28 ((transpose S8192x1000 [1, 0] · transposes_S1000x8192_S8192x1000_1_0) : (⟨S1000x8192, .f32⟩ : BufTy).Contents (Elt F) → (⟨S8192x1000, .f32⟩ : BufTy).Contents (Elt F))]

/-- The arrays they write. -/
abbrev wrE : List (Ref sig .tc) := [main_v28]

/-- The program: the stretches and the calls in order. -/
theorem main_eq (d : Dev nD) : main (F := F) d = (StableHlo.seq opsA >>= fun _ => sc.run d 0 >>= fun _ => StableHlo.seq opsB >>= fun _ =>
    sc.run d 1 >>= fun _ => StableHlo.seq opsC >>= fun _ => Prog.lift (.customCall (SparseCore.inner (Pipeline.entry 0)) ()) >>= fun _ =>
    StableHlo.seq opsD >>= fun _ => Prog.lift (.customCall (SparseCore.inner (Pipeline.entry 1)) ()) >>= fun _ => StableHlo.seq opsE) := by
  simp only [main, fn_floor_divide.body, fn_where.body, StableHlo.seq, bind_assoc, pure_bind]
  rfl

/-- The unscoped arrays. -/
abbrev bufs : Finset (DevRef τ sig) := (StableHlo.tcRefs τ sig).filter fun b => ¬ b.isScoped

theorem mem_bufs (b : Ref sig .tc) (h : (Proc.devRef (τ := τ) .tc b).isScoped = false) : Proc.devRef (τ := τ) .tc b ∈ bufs :=
  Finset.mem_filter.mpr ⟨StableHlo.devRef_mem_tcRefs b, by rw [h]; decide⟩

theorem sub1 (a : Ref sig .tc) (ha : (Proc.devRef (τ := τ) .tc a).isScoped = false) : ({Proc.devRef (τ := τ) .tc a} : Finset (DevRef τ sig)) ⊆ bufs :=
  Finset.singleton_subset_iff.mpr (mem_bufs a ha)
theorem sub2 (a b : Ref sig .tc) (ha : (Proc.devRef (τ := τ) .tc a).isScoped = false) (hb : (Proc.devRef (τ := τ) .tc b).isScoped = false) :
    ({Proc.devRef (τ := τ) .tc a, Proc.devRef (τ := τ) .tc b} : Finset (DevRef τ sig)) ⊆ bufs :=
  Finset.insert_subset (mem_bufs a ha) (sub1 b hb)
theorem sub3 (a b c : Ref sig .tc) (ha : (Proc.devRef (τ := τ) .tc a).isScoped = false) (hb : (Proc.devRef (τ := τ) .tc b).isScoped = false)
    (hc : (Proc.devRef (τ := τ) .tc c).isScoped = false) :
    ({Proc.devRef (τ := τ) .tc a, Proc.devRef (τ := τ) .tc b, Proc.devRef (τ := τ) .tc c} : Finset (DevRef τ sig)) ⊆ bufs :=
  Finset.insert_subset (mem_bufs a ha) (sub2 b c hb hc)
theorem sub4 (a b c e : Ref sig .tc) (ha : (Proc.devRef (τ := τ) .tc a).isScoped = false) (hb : (Proc.devRef (τ := τ) .tc b).isScoped = false)
    (hc : (Proc.devRef (τ := τ) .tc c).isScoped = false) (he : (Proc.devRef (τ := τ) .tc e).isScoped = false) :
    ({Proc.devRef (τ := τ) .tc a, Proc.devRef (τ := τ) .tc b, Proc.devRef (τ := τ) .tc c, Proc.devRef (τ := τ) .tc e} : Finset (DevRef τ sig)) ⊆ bufs :=
  Finset.insert_subset (mem_bufs a ha) (sub3 b c e hb hc he)

theorem subA : (opsA (F := F)).Forall fun op => op.bufs ⊆ bufs :=
  ⟨sub2 _ _ rfl rfl, sub2 _ _ rfl rfl⟩
theorem subB : (opsB (F := F)).Forall fun op => op.bufs ⊆ bufs := sub2 _ _ rfl rfl
theorem subD : (opsD (F := F)).Forall fun op => op.bufs ⊆ bufs := sub2 _ _ rfl rfl
theorem subE : (opsE (F := F)).Forall fun op => op.bufs ⊆ bufs := sub2 _ _ rfl rfl
theorem subC : (opsC (F := F)).Forall fun op => op.bufs ⊆ bufs :=
  ⟨sub1 _ rfl, sub2 _ _ rfl rfl, sub3 _ _ _ rfl rfl rfl, sub2 _ _ rfl rfl, sub2 _ _ rfl rfl, sub2 _ _ rfl rfl, sub1 _ rfl, sub2 _ _ rfl rfl, sub3 _ _
    _ rfl rfl rfl, sub2 _ _ rfl rfl, sub2 _ _ rfl rfl, sub3 _ _ _ rfl rfl rfl, sub2 _ _ rfl rfl, sub2 _ _ rfl rfl, sub1 _ rfl, sub2 _ _ rfl rfl, sub1
    _ rfl, sub2 _ _ rfl rfl, sub2 _ _ rfl rfl, sub3 _ _ _ rfl rfl rfl, sub2 _ _ rfl rfl, sub2 _ _ rfl rfl, sub2 _ _ rfl rfl, sub3 _ _ _ rfl rfl rfl,
    sub2 _ _ rfl rfl, sub3 _ _ _ rfl rfl rfl, sub1 _ rfl, sub2 _ _ rfl rfl, sub3 _ _ _ rfl rfl rfl, sub3 _ _ _ rfl rfl rfl, sub1 _ rfl, sub2 _ _ rfl
    rfl, sub3 _ _ _ rfl rfl rfl, sub4 _ _ _ _ rfl rfl rfl rfl, sub1 _ rfl, sub2 _ _ rfl rfl, sub2 _ _ rfl rfl, sub2 _ _ rfl rfl, sub3 _ _ _ rfl rfl
    rfl, sub2 _ _ rfl rfl⟩

theorem freshA : (opsA (F := F)).Forall fun op => op.fresh = ∅ := StableHlo.forall_fresh_of_map rfl
theorem freshB : (opsB (F := F)).Forall fun op => op.fresh = ∅ := StableHlo.forall_fresh_of_map rfl
theorem freshC : (opsC (F := F)).Forall fun op => op.fresh = ∅ := StableHlo.forall_fresh_of_map rfl
theorem freshD : (opsD (F := F)).Forall fun op => op.fresh = ∅ := StableHlo.forall_fresh_of_map rfl
theorem freshE : (opsE (F := F)).Forall fun op => op.fresh = ∅ := StableHlo.forall_fresh_of_map rfl

theorem writesA : (opsA (F := F)).map HloOp.writes = wrA.map fun r => {Proc.devRef (τ := τ) .tc r} := rfl
theorem writesB : (opsB (F := F)).map HloOp.writes = wrB.map fun r => {Proc.devRef (τ := τ) .tc r} := rfl
theorem writesC : (opsC (F := F)).map HloOp.writes = wrC.map fun r => {Proc.devRef (τ := τ) .tc r} := rfl
theorem writesD : (opsD (F := F)).map HloOp.writes = wrD.map fun r => {Proc.devRef (τ := τ) .tc r} := rfl
theorem writesE : (opsE (F := F)).map HloOp.writes = wrE.map fun r => {Proc.devRef (τ := τ) .tc r} := rfl

end Cert.Proof.Run

end
-- ==== Proof.Main.lean ====
/-
  The program's run: what every array holds between its stretches and calls, from the launch memory to the end, and
  the TensorCore's program proved through them.
-/
module

public import proofs.«01_k».proof.Proof.ScObl
public import proofs.«01_k».proof.Proof.RegionB
public import proofs.«01_k».proof.Proof.HostOps
public import Idealize.ShloMosaic.Lib.StableHlo.RunRead

@[expose] public section

set_option maxRecDepth 16384

noncomputable section

namespace Cert.Proof.Run

open Cert.KernelIdeal Cert.KernelIdeal.Gen Cert.Proof.Sc Cert.Proof.Tc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 2) (Elt F) ℕ UU ℕ
/-- Contents of every buffer of a device. -/
local notation "𝕎" => Valuation τ sig (Elt F)

variable (m : (ℓ : Loc nD τ sig) → Buf (Elt F) ℓ)

/-! ## What the arrays hold, in order -/

/-- One array's contents replaced. -/
def put (W : 𝕎) (r : Ref sig .tc) (x : (Proc.devRef (τ := τ) .tc r).ty.Contents (Elt F)) : 𝕎 := Function.update W (Proc.devRef .tc r) x

omit [FloatOps F] in
theorem put_self (W : 𝕎) (r : Ref sig .tc) (x : (Proc.devRef (τ := τ) .tc r).ty.Contents (Elt F)) : put W r x (Proc.devRef .tc r) = x := Function.update_self ..
omit [FloatOps F] in
theorem put_ne (W : 𝕎) (r : Ref sig .tc) (x : (Proc.devRef (τ := τ) .tc r).ty.Contents (Elt F)) (b : Ref sig .tc) (h : b ≠ r) :
    put W r x (Proc.devRef .tc b) = W (Proc.devRef .tc b) := Function.update_of_ne (StableHlo.devRef_ne_of_ne h) ..

/-- The contents as a TensorCore addresses them. -/
abbrev tcVals (W : Dev nD → 𝕎) : Vals F := fun c b => W c (Proc.devRef .tc b)

/-- At the launch; -/
def W0 (d : Dev nD) : 𝕎 := fun b => m (d, b)
/-- the rows' numbers laid out and the first half cut; -/
def W1 (d : Dev nD) : 𝕎 := after opsA (W0 m d)
/-- the first half's rows of the two tables; -/
def W2 (d : Dev nD) : 𝕎 :=
  put (put (W1 m d) main_v2_0 (gath (W1 m d main_arg1) (W1 m d main_v1))) main_v2_1 (gath (W1 m d main_arg3) (W1 m d main_v1))
/-- the second half cut; -/
def W3 (d : Dev nD) : 𝕎 := after opsB (W2 m d)
/-- the second half's rows; -/
def W4 (d : Dev nD) : 𝕎 :=
  put (put (W3 m d) main_v4_0 (gath (W3 m d main_arg1) (W3 m d main_v3))) main_v4_1 (gath (W3 m d main_arg3) (W3 m d main_v3))
/-- the coefficients and the mask; -/
def W5 (d : Dev nD) : 𝕎 := after opsC (W4 m d)
/-- the first fused call's two results; -/
def W6 (d : Dev nD) : 𝕎 :=
  put (put (W5 m d) main_v26_0 ((datA (tcVals (W5 m)) d).arrAt 6 cfg2.N)) main_v26_1 ((datA (tcVals (W5 m)) d).arrAt 7 cfg2.N)
/-- the copy; -/
def W7 (d : Dev nD) : 𝕎 := after opsD (W6 m d)
/-- the second fused call's result; -/
def W8 (d : Dev nD) : 𝕎 := put (W7 m d) main_v27 ((datB (tcVals (W7 m)) d).arrAt 7 cfg3.N)
/-- the end. -/
def W9 (d : Dev nD) : 𝕎 := after opsE (W8 m d)

theorem W1_ne (d : Dev nD) (b : Ref sig .tc) (h : b ∉ wrA) : W1 m d (Proc.devRef .tc b) = m (lc d b) :=
  StableHlo.after_unwritten wrA writesA h _
theorem W3_ne (d : Dev nD) (b : Ref sig .tc) (h : b ∉ wrA ++ [main_v2_0, main_v2_1] ++ wrB) : W3 m d (Proc.devRef .tc b) = m (lc d b) := by
  simp only [List.mem_append, not_or] at h
  refine (StableHlo.after_unwritten wrB writesB h.2 _).trans ?_
  have h2 := h.1.2; simp only [List.mem_cons, not_or] at h2
  unfold W2; rw [put_ne _ _ _ _ h2.2.1, put_ne _ _ _ _ h2.1]
  exact W1_ne m d b h.1.1
theorem W5_ne (d : Dev nD) (b : Ref sig .tc) (h : b ∉ wrA ++ [main_v2_0, main_v2_1] ++ wrB) (h' : b ∉ [main_v4_0, main_v4_1] ++ wrC) :
    W5 m d (Proc.devRef .tc b) = m (lc d b) := by
  simp only [List.mem_append, not_or] at h'
  refine (StableHlo.after_unwritten wrC writesC h'.2 _).trans ?_
  have h2 := h'.1; simp only [List.mem_cons, not_or] at h2
  unfold W4; rw [put_ne _ _ _ _ h2.2.1, put_ne _ _ _ _ h2.1]
  exact W3_ne m d b h
/-- An array that nothing writes ends as it began. -/
theorem W9_ne (d : Dev nD) (b : Ref sig .tc) (h : b ∉ wrA ++ [main_v2_0, main_v2_1] ++ wrB) (h' : b ∉ [main_v4_0, main_v4_1] ++ wrC)
    (h'' : b ∉ [main_v26_0, main_v26_1, main_v27, main_v28]) : W9 m d (Proc.devRef .tc b) = m (lc d b) := by
  simp only [List.mem_cons, not_or] at h''
  obtain ⟨h0, h1, h2, h3, -⟩ := h''
  refine (StableHlo.after_unwritten wrE writesE (by simpa using h3) _).trans ?_
  unfold W8; rw [put_ne _ _ _ _ h2]
  refine (StableHlo.after_unwritten wrD writesD (by simpa using h2) _).trans ?_
  unfold W6; rw [put_ne _ _ _ _ h1, put_ne _ _ _ _ h0]
  exact W5_ne m d b h h'

/-! ## The unscoped arrays, and one call's five of them -/

omit [FloatOps F] in
theorem unscoped_held (d : Dev nD) (W : 𝕎) :
    (unscopedBufs d (fun b => W (Proc.devRef .tc b)) : sProp 𝕄) = held (SparseCore.T d) bufs W := by
  unfold unscopedBufs StableHlo.held bufs StableHlo.tcRefs
  rw [Finset.filter_map, BI.bigSep_map]
  rfl

/-- The arrays call 0 takes; -/
abbrev five0 : Finset (DevRef τ sig) := {Proc.devRef .tc main_v1, Proc.devRef .tc main_arg1, Proc.devRef .tc main_arg3, Proc.devRef .tc main_v2_0, Proc.devRef .tc main_v2_1}
/-- and call 1. -/
abbrev five1 : Finset (DevRef τ sig) := {Proc.devRef .tc main_v3, Proc.devRef .tc main_arg1, Proc.devRef .tc main_arg3, Proc.devRef .tc main_v4_0, Proc.devRef .tc main_v4_1}

theorem five0_sub : five0 ⊆ bufs := Finset.insert_subset (mem_bufs _ rfl) (sub4 _ _ _ _ rfl rfl rfl rfl)
theorem five1_sub : five1 ⊆ bufs := Finset.insert_subset (mem_bufs _ rfl) (sub4 _ _ _ _ rfl rfl rfl rfl)

omit [FloatOps F] in
theorem held_five0 (d : Dev nD) (W : 𝕎) : (held (SparseCore.T d) five0 W : sProp 𝕄)
    = iprop((lc d main_v1 ↦{fullShare} W main_v1) ∗ (lc d main_arg1 ↦{fullShare} W main_arg1) ∗ (lc d main_arg3 ↦{fullShare} W main_arg3)
      ∗ (lc d main_v2_0 ↦{fullShare} W main_v2_0) ∗ (lc d main_v2_1 ↦{fullShare} W main_v2_1)) := by
  unfold StableHlo.held five0
  rw [SparseCore.bigSep_insert' (by decide), SparseCore.bigSep_insert' (by decide), SparseCore.bigSep_insert' (by decide), SparseCore.bigSep_insert' (by decide), bigSep_singleton]
omit [FloatOps F] in
theorem held_five1 (d : Dev nD) (W : 𝕎) : (held (SparseCore.T d) five1 W : sProp 𝕄)
    = iprop((lc d main_v3 ↦{fullShare} W main_v3) ∗ (lc d main_arg1 ↦{fullShare} W main_arg1) ∗ (lc d main_arg3 ↦{fullShare} W main_arg3)
      ∗ (lc d main_v4_0 ↦{fullShare} W main_v4_0) ∗ (lc d main_v4_1 ↦{fullShare} W main_v4_1)) := by
  unfold StableHlo.held five1
  rw [SparseCore.bigSep_insert' (by decide), SparseCore.bigSep_insert' (by decide), SparseCore.bigSep_insert' (by decide), SparseCore.bigSep_insert' (by decide), bigSep_singleton]

/-- The first and the second half of the sessions' rows. -/
def ixA (d : Dev nD) : Buf (Elt F) (lc d main_v1) := W1 m d (Proc.devRef .tc main_v1)
def ixB (d : Dev nD) : Buf (Elt F) (lc d main_v3) := W3 m d (Proc.devRef .tc main_v3)

/-- What call 0 takes and brings back, as the arrays before and after it. -/
theorem take0 (d : Dev nD) : (bigSep Finset.univ fun c : Fin ((K (F := F)).nCore 0) => (P m (ixA m) (ixB m)).st 0 d c)
    = (held (SparseCore.T d) five0 (W1 m d) : sProp 𝕄) := by
  rw [st0_eq, held_five0, W1_ne m d main_arg1 (by decide), W1_ne m d main_arg3 (by decide), W1_ne m d main_v2_0 (by decide), W1_ne m d main_v2_1 (by decide)]
  rfl
theorem give0 (d : Dev nD) : (bigSep Finset.univ fun c : Fin ((K (F := F)).nCore 0) => (P m (ixA m) (ixB m)).dn 0 d c)
    = (held (SparseCore.T d) five0 (W2 m d) : sProp 𝕄) := by
  rw [dn0_eq, held_five0]
  unfold W2
  rw [put_self, put_ne _ main_v2_1 _ main_v2_0 (by decide), put_self, put_ne _ _ _ _ (by decide), put_ne _ _ _ _ (by decide),
    put_ne _ _ _ main_arg1 (by decide), put_ne _ _ _ main_arg1 (by decide), put_ne _ _ _ main_arg3 (by decide), put_ne _ _ _ main_arg3 (by decide),
    W1_ne m d main_arg1 (by decide), W1_ne m d main_arg3 (by decide)]
  rfl
/-- The same of call 1. -/
theorem take1 (d : Dev nD) : (bigSep Finset.univ fun c : Fin ((K (F := F)).nCore 1) => (P m (ixA m) (ixB m)).st 1 d c)
    = (held (SparseCore.T d) five1 (W3 m d) : sProp 𝕄) := by
  rw [st1_eq, held_five1, W3_ne m d main_arg1 (by decide), W3_ne m d main_arg3 (by decide), W3_ne m d main_v4_0 (by decide), W3_ne m d main_v4_1 (by decide)]
  rfl
theorem give1 (d : Dev nD) : (bigSep Finset.univ fun c : Fin ((K (F := F)).nCore 1) => (P m (ixA m) (ixB m)).dn 1 d c)
    = (held (SparseCore.T d) five1 (W4 m d) : sProp 𝕄) := by
  rw [dn1_eq, held_five1]
  unfold W4
  rw [put_self, put_ne _ main_v4_1 _ main_v4_0 (by decide), put_self, put_ne _ _ _ _ (by decide), put_ne _ _ _ _ (by decide),
    put_ne _ _ _ main_arg1 (by decide), put_ne _ _ _ main_arg1 (by decide), put_ne _ _ _ main_arg3 (by decide), put_ne _ _ _ main_arg3 (by decide),
    W3_ne m d main_arg1 (by decide), W3_ne m d main_arg3 (by decide)]
  rfl

/-- Off the two results, a call changes nothing. -/
theorem rest0 (d : Dev nD) : (held (SparseCore.T d) (bufs \ five0) (W1 m d) : sProp 𝕄) = held (SparseCore.T d) (bufs \ five0) (W2 m d) :=
  StableHlo.held_congr _ fun b hb => by
    have hn := (Finset.mem_sdiff.mp hb).2
    unfold W2 put
    rw [Function.update_of_ne (fun e => hn (by rw [e]; decide)), Function.update_of_ne (fun e => hn (by rw [e]; decide))]
theorem rest1 (d : Dev nD) : (held (SparseCore.T d) (bufs \ five1) (W3 m d) : sProp 𝕄) = held (SparseCore.T d) (bufs \ five1) (W4 m d) :=
  StableHlo.held_congr _ fun b hb => by
    have hn := (Finset.mem_sdiff.mp hb).2
    unfold W4 put
    rw [Function.update_of_ne (fun e => hn (by rw [e]; decide)), Function.update_of_ne (fun e => hn (by rw [e]; decide))]

/-- The fused calls leave exactly the next contents. -/
theorem vals6 (d : Dev nD) : valsA (tcVals (W5 m)) d = fun b => W6 m d (Proc.devRef .tc b) := by
  funext b
  by_cases h1 : b = main_v26_1
  · subst h1; rw [valsA_col]; unfold W6; rw [put_self]
  by_cases h0 : b = main_v26_0
  · subst h0; rw [valsA_out]; unfold W6; rw [put_ne _ _ _ _ h1, put_self]
  rw [valsA_ne _ _ _ h0 h1]; unfold W6; rw [put_ne _ _ _ _ h1, put_ne _ _ _ _ h0]
theorem vals8 (d : Dev nD) : valsB (tcVals (W7 m)) d = fun b => W8 m d (Proc.devRef .tc b) := by
  funext b
  by_cases h0 : b = main_v27
  · subst h0; rw [valsB_out]; unfold W8; rw [put_self]
  rw [valsB_ne _ _ _ h0]; unfold W8; rw [put_ne _ _ _ _ h0]

/-! ## The TensorCore's program -/

/-- One pipeline's ghost state on one device. -/
def cells (p : Fin 2) (d : Dev nD) : sProp 𝕄 :=
  iprop(Pipeline.cellsGhost (Pipeline.pin (pcfgs (F := F)) adm) EP p d ∗ Pipeline.toksInit (Pipeline.pin (pcfgs (F := F)) adm) EP p d)
/-- What the launch deals a TensorCore: the two pipelines' ghost states. -/
def dealt (d : Dev nD) : sProp 𝕄 := iprop(cells (F := F) 0 d ∗ cells 1 d)
/-- What it keeps: every unscoped array, at the end's contents. -/
def kept (d : Dev nD) : sProp 𝕄 := held (SparseCore.T d) bufs (W9 m d)

/-- A fused call as the program spells it is the pipelines' program's call, lifted. -/
theorem lift_eq (p : Fin 2) : (Prog.lift (.customCall (SparseCore.inner (Pipeline.entry p)) ())
      : Prog (TpuEff nD τ sig (Elt F) (SparseCore.Sig (ΛP (F := F)) 2) .tc) PUnit)
    = SparseCore.liftProg (.op (.customCall (Pipeline.entry p) ()) .ret) := rfl

/-- A stretch of host operations, from one contents of the arrays to the next. -/
theorem stretch (d : Dev nD) (ops : List (HloOp τ sig (Elt F))) (hs : ops.Forall fun op => op.bufs ⊆ bufs) (hf : ops.Forall fun op => op.fresh = ∅)
    (V V' : 𝕎) (e : after ops V = V') (k : PUnit → Prog (TpuEff nD τ sig (Elt F) (SparseCore.Sig (ΛP (F := F)) 2) .tc) PUnit) (Q : PUnit → sProp 𝕄) :
    iprop(boundary (SparseCore.T d) ∗ held (SparseCore.T d) bufs V)
      ⊢ iprop(((boundary (SparseCore.T d) ∗ held (SparseCore.T d) bufs V') -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq ops >>= k) Q) := by
  subst e
  exact StableHlo.wp_seq 𝒱 none Set.univ d bufs k ops (List.forall_iff_forall_mem.mp hs) (List.forall_iff_forall_mem.mp hf) V

/-- Call 0, from the arrays before it to the arrays after it. -/
theorem call0 (κ : GSem nD τ sig → ℕ) (d : Dev nD) (Q : PUnit → sProp 𝕄) :
    iprop((K (F := F)).ctx EH (P m (ixA m) (ixB m)) κ ∗ (K (F := F)).tcSt EH d 0 ∗ held (SparseCore.T d) bufs (W1 m d)
        ∗ (((K (F := F)).tcSt EH d 1 ∗ held (SparseCore.T d) bufs (W2 m d)) -∗ Q ⟨⟩))
      ⊢ wp frame (wpE ((K (F := F)).defs (D (F := F))) 𝒱 (SparseCore.T d) none) Set.univ (sc.run d 0) Q := by
  rw [StableHlo.held_sub_split (c := SparseCore.T d) five0_sub (W1 m d), StableHlo.held_sub_split (c := SparseCore.T d) five0_sub (W2 m d), rest0]
  iintro ⟨#Hctx, Hst, ⟨H5, Hr⟩, Hk⟩
  iapply ((K (F := F)).wp_run (D (F := F)) 𝒱 (EH := EH) (P := P m (ixA m) (ixB m)) κ d 0) $$ [Hst H5 Hr Hk]
  isplitr; · iexact Hctx
  isplitl [Hst]; · iexact Hst
  isplitl [H5]; · rw [take0]; iexact H5
  iintro ⟨Hst, H5⟩
  ihave H5 := (Entails.of_eq (give0 m d)) $$ H5
  iapply Hk
  isplitl [Hst]; · iexact Hst
  isplitl [H5] <;> iassumption
/-- Call 1, the same. -/
theorem call1 (κ : GSem nD τ sig → ℕ) (d : Dev nD) (Q : PUnit → sProp 𝕄) :
    iprop((K (F := F)).ctx EH (P m (ixA m) (ixB m)) κ ∗ (K (F := F)).tcSt EH d 1 ∗ held (SparseCore.T d) bufs (W3 m d)
        ∗ (((K (F := F)).tcSt EH d 2 ∗ held (SparseCore.T d) bufs (W4 m d)) -∗ Q ⟨⟩))
      ⊢ wp frame (wpE ((K (F := F)).defs (D (F := F))) 𝒱 (SparseCore.T d) none) Set.univ (sc.run d 1) Q := by
  rw [StableHlo.held_sub_split (c := SparseCore.T d) five1_sub (W3 m d), StableHlo.held_sub_split (c := SparseCore.T d) five1_sub (W4 m d), rest1]
  iintro ⟨#Hctx, Hst, ⟨H5, Hr⟩, Hk⟩
  iapply ((K (F := F)).wp_run (D (F := F)) 𝒱 (EH := EH) (P := P m (ixA m) (ixB m)) κ d 1) $$ [Hst H5 Hr Hk]
  isplitr; · iexact Hctx
  isplitl [Hst]; · iexact Hst
  isplitl [H5]; · rw [take1]; iexact H5
  iintro ⟨Hst, H5⟩
  ihave H5 := (Entails.of_eq (give1 m d)) $$ H5
  iapply Hk
  isplitl [Hst]; · iexact Hst
  isplitl [H5] <;> iassumption

set_option backward.isDefEq.respectTransparency.types false in
/-- The first fused call, the same. -/
theorem fusedA (κ : GSem nD τ sig → ℕ) (d : Dev nD) (Q : PUnit → sProp 𝕄) :
    iprop((K (F := F)).ctx EH (P m (ixA m) (ixB m)) κ ∗ boundary (SparseCore.T d) ∗ held (SparseCore.T d) bufs (W5 m d) ∗ quiet d ∗ cells (F := F) 0 d
        ∗ ((boundary (SparseCore.T d) ∗ held (SparseCore.T d) bufs (W6 m d) ∗ quiet d) -∗ Q ⟨⟩))
      ⊢ wp frame (wpE ((K (F := F)).defs (D (F := F))) 𝒱 (SparseCore.T d) none) Set.univ
          (Prog.lift (.customCall (SparseCore.inner (Pipeline.entry 0)) ())) Q := by
  rw [lift_eq]
  rw [← unscoped_held, ← unscoped_held, ← vals6]
  unfold cells
  iintro ⟨#Hctx, Hb, Hu, Hq, ⟨Hg, Ht⟩, Hk⟩
  iapply ((K (F := F)).wp_liftProg (D (F := F)) 𝒱 (SparseCore.T d) Set.univ none (.op (.customCall (Pipeline.entry 0) ()) .ret) Q)
  iapply (Pipeline.RegionSeg.wp (pcfgs (F := F)) adm (datsA (tcVals (W5 m))) (default : HIx 2) cellOf_inj EP defs₀ 𝒱₀ (K (F := F)).L (K (F := F)).lev (regA (tcVals (W5 m))) d none (fun _ h => nomatch h) .ret Q)
  isplitl [Hk]
  · rw [show (regA (tcVals (W5 m))).post d = iprop(unscopedBufs d (valsA (tcVals (W5 m)) d) ∗ quiet d) from rfl]
    iintro ⟨Hb, Hu, Hq⟩
    rw [wp_ret]; imodintro
    iapply Hk
    isplitl [Hb]; · iexact Hb
    isplitl [Hu]; · iexact Hu
    iexact Hq
  isplitl [Hb]; · iexact Hb
  isplitl [Hu Hq]
  · rw [show (regA (tcVals (W5 m))).pre d = iprop(unscopedBufs d (tcVals (W5 m) d) ∗ quiet d) from rfl]
    isplitl [Hu]; · iexact Hu
    iexact Hq
  isplitr; · iapply (SparseCore.Cfg.ctx_levAts (K := K (F := F)) κ); iexact Hctx
  isplitl [Hg]; · iexact Hg
  iexact Ht

set_option backward.isDefEq.respectTransparency.types false in
/-- The second fused call, the same. -/
theorem fusedB (κ : GSem nD τ sig → ℕ) (d : Dev nD) (Q : PUnit → sProp 𝕄) :
    iprop((K (F := F)).ctx EH (P m (ixA m) (ixB m)) κ ∗ boundary (SparseCore.T d) ∗ held (SparseCore.T d) bufs (W7 m d) ∗ quiet d ∗ cells (F := F) 1 d
        ∗ ((boundary (SparseCore.T d) ∗ held (SparseCore.T d) bufs (W8 m d) ∗ quiet d) -∗ Q ⟨⟩))
      ⊢ wp frame (wpE ((K (F := F)).defs (D (F := F))) 𝒱 (SparseCore.T d) none) Set.univ
          (Prog.lift (.customCall (SparseCore.inner (Pipeline.entry 1)) ())) Q := by
  rw [lift_eq]
  rw [← unscoped_held, ← unscoped_held, ← vals8]
  unfold cells
  iintro ⟨#Hctx, Hb, Hu, Hq, ⟨Hg, Ht⟩, Hk⟩
  iapply ((K (F := F)).wp_liftProg (D (F := F)) 𝒱 (SparseCore.T d) Set.univ none (.op (.customCall (Pipeline.entry 1) ()) .ret) Q)
  iapply (Pipeline.RegionSeg.wp (pcfgs (F := F)) adm (datsB (tcVals (W7 m))) (default : HIx 2) cellOf_inj EP defs₀ 𝒱₀ (K (F := F)).L (K (F := F)).lev (regB (tcVals (W7 m))) d none (fun _ h => nomatch h) .ret Q)
  isplitl [Hk]
  · rw [show (regB (tcVals (W7 m))).post d = iprop(unscopedBufs d (valsB (tcVals (W7 m)) d) ∗ quiet d) from rfl]
    iintro ⟨Hb, Hu, Hq⟩
    rw [wp_ret]; imodintro
    iapply Hk
    isplitl [Hb]; · iexact Hb
    isplitl [Hu]; · iexact Hu
    iexact Hq
  isplitl [Hb]; · iexact Hb
  isplitl [Hu Hq]
  · rw [show (regB (tcVals (W7 m))).pre d = iprop(unscopedBufs d (tcVals (W7 m) d) ∗ quiet d) from rfl]
    isplitl [Hu]; · iexact Hu
    iexact Hq
  isplitr; · iapply (SparseCore.Cfg.ctx_levAts (K := K (F := F)) κ); iexact Hctx
  isplitl [Hg]; · iexact Hg
  iexact Ht

set_option maxHeartbeats 1600000 in
/-- The program on device `d`'s TensorCore. -/
theorem hmain (ρ : Dev nD → PrngReg) (κ : GSem nD τ sig → ℕ) (d : Dev nD) :
    iprop((K (F := F)).ctx EH (P m (ixA m) (ixB m)) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 2 ∗ kept m d ∗ (K (F := F)).tcEnd d) := by
  unfold SparseCore.Cfg.tcRes SparseCore.Cfg.tcEnd dealt
  rw [main_eq, show (unscopedBufs d (fun b => m ((SparseCore.T d).loc b)) : sProp 𝕄) = held (SparseCore.T d) bufs (W0 m d) from unscoped_held d (W0 m d)]
  iintro ⟨#Hctx, Hst, ⟨Hb, Hu, Hts, -⟩, Hc0, Hc1⟩
  iapply (stretch d opsA subA freshA (W0 m d) (W1 m d) rfl) $$ [Hb Hu]
  · isplitl [Hb] <;> iassumption
  iintro ⟨Hb, Hu⟩
  rw [wp_bind]
  iapply (call0 m κ d) $$ [Hst Hu Hb Hts Hc0 Hc1]
  isplitr; · iexact Hctx
  isplitl [Hst]; · iexact Hst
  isplitl [Hu]; · iexact Hu
  iintro ⟨Hst, Hu⟩
  iapply (stretch d opsB subB freshB (W2 m d) (W3 m d) rfl) $$ [Hb Hu]
  · isplitl [Hb] <;> iassumption
  iintro ⟨Hb, Hu⟩
  rw [wp_bind]
  iapply (call1 m κ d) $$ [Hst Hu Hb Hts Hc0 Hc1]
  isplitr; · iexact Hctx
  isplitl [Hst]; · iexact Hst
  isplitl [Hu]; · iexact Hu
  iintro ⟨Hst, Hu⟩
  iapply (stretch d opsC subC freshC (W4 m d) (W5 m d) rfl) $$ [Hb Hu]
  · isplitl [Hb] <;> iassumption
  iintro ⟨Hb, Hu⟩
  rw [wp_bind]
  unfold SparseCore.Cfg.tcSt
  icases Hst with ⟨⟨%W, %hW, HO⟩, Hst⟩
  rw [(K (F := F)).Otc_end d le_rfl]
  iapply (fusedA m κ d) $$ [Hst Hu Hb Hts Hc0 Hc1 HO]
  isplitr; · iexact Hctx
  isplitl [Hb]; · iexact Hb
  isplitl [Hu]; · iexact Hu
  isplitl [HO]
  · unfold quiet; iexists W; isplitr; · ipureintro; exact hW
    iexact HO
  isplitl [Hc0]; · iexact Hc0
  iintro ⟨Hb, Hu, HO⟩
  iapply (stretch d opsD subD freshD (W6 m d) (W7 m d) rfl) $$ [Hb Hu]
  · isplitl [Hb] <;> iassumption
  iintro ⟨Hb, Hu⟩
  rw [wp_bind]
  iapply (fusedB m κ d) $$ [Hst Hu Hb Hts Hc1 HO]
  isplitr; · iexact Hctx
  isplitl [Hb]; · iexact Hb
  isplitl [Hu]; · iexact Hu
  isplitl [HO]; · iexact HO
  isplitl [Hc1]; · iexact Hc1
  iintro ⟨Hb, Hu, HO⟩
  rw [show (StableHlo.seq opsE : Prog (TpuEff nD τ sig (Elt F) (SparseCore.Sig (ΛP (F := F)) 2) .tc) PUnit) = StableHlo.seq opsE >>= fun _ => .ret ⟨⟩ from rfl]
  iapply (stretch d opsE subE freshE (W8 m d) (W9 m d) rfl) $$ [Hb Hu]
  · isplitl [Hb] <;> iassumption
  iintro ⟨Hb, Hu⟩
  rw [wp_ret]; imodintro
  isplitl [Hst HO]
  · isplitl [HO]
    · unfold quiet; icases HO with ⟨%W', %hW', HO⟩; iexists W'; isplitr; · ipureintro; exact hW'
      iexact HO
    iexact Hst
  isplitl [Hu]; · unfold kept; iexact Hu
  isplitl [Hb] <;> iassumption

/-! ## The launch and the end -/

/-- The launch's ghost element: the handshakes', the pipelines', no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- The pipelines' part of the launch's element. -/
theorem own_pipes (a : UP) (b : Counters) : (BI.own ((embR : Emb (UP × Counters) 𝕄) (a, b)) : sProp 𝕄) ⊢ iprop(BI.own ((EP : Emb UP 𝕄) a) ∗ BI.own (((Emb.inr : Emb Counters (UP × Counters)).trans (embR : Emb (UP × Counters) 𝕄)) b)) := by
  unfold EP; exact own_pair_emb (embR : Emb (UP × Counters) 𝕄) a b

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 2 => (P m (ixA m) (ixB m)).x q thr) := by
  unfold u₀
  iintro Hu
  ihave H := (ownU_pair _ _) $$ Hu
  icases H with ⟨HH, HR⟩
  ihave H := (own_pipes _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [show (fun d : Dev nD => dealt (F := F) d) = fun d => (iprop((bigSep Finset.univ fun p : Fin 2 => Pipeline.cellsGhost (Pipeline.pin (pcfgs (F := F)) adm) EP p d)
        ∗ bigSep Finset.univ fun p : Fin 2 => Pipeline.toksInit (Pipeline.pin (pcfgs (F := F)) adm) EP p d) : sProp 𝕄) from
      funext fun d => by rw [← bigSep_sep', show (Finset.univ : Finset (Fin 2)) = {0, 1} from rfl, SparseCore.bigSep_insert' (by decide), bigSep_singleton]; rfl]
    rw [bigSep_sep']
    isplitl [Hg] <;> iassumption
  rw [show (bigSep Finset.univ fun thr : Thread nD τ => bigSep Finset.univ fun q : Fin 2 => (P m (ixA m) (ixB m)).x q thr) = bigSep Finset.univ fun _ => (iprop(emp) : sProp 𝕄) from
    bigSep_congr fun _ _ => bigSep_emp_const _]
  rw [show (bigSep Finset.univ fun _ : Thread nD τ => (iprop(emp) : sProp 𝕄)) = iprop(emp) from bigSep_emp_const _]
  iempintro

/-- The memory agrees with what a device keeps. -/
def fq (d : Dev nD) (s' : Phys nD τ sig (Elt F)) : Prop := ∀ b : Ref sig .tc, (Proc.devRef (τ := τ) .tc b).isScoped = false → s'.mem.mem (lc d b) = W9 m d (Proc.devRef .tc b)

theorem hfin (d : Dev nD) (s' : Phys nD τ sig (Elt F)) : iprop(kept m d ∗ SI s') ⊢ (⌜fq m d s'⌝ : sProp 𝕄) := by
  have h1 : ∀ b : {b : Ref sig .tc // (Proc.devRef (τ := τ) .tc b).isScoped = false},
      iprop(kept m d ∗ SI s') ⊢ (⌜s'.mem.mem (lc d b.1) = W9 m d (Proc.devRef .tc b.1)⌝ : sProp 𝕄) := fun b => by
    have hk : kept m d ⊢ (lc d b.1 ↦{fullShare} W9 m d (Proc.devRef .tc b.1) : sProp 𝕄) := by
      unfold kept StableHlo.held; exact bigSep_elim (mem_bufs b.1 b.2)
    iintro ⟨Hk, HSI⟩
    ihave Hp := hk $$ Hk
    ihave H := (SI_pointsTo_agree (st := s') (ℓ := lc d b.1) (I := Finset.univ) (q := fullShare) (f := W9 m d (Proc.devRef .tc b.1))) $$ [HSI Hp]
    · isplitl [HSI] <;> iassumption
    icases H with %h
    ipureintro; exact funext fun i => h i (Finset.mem_univ i)
  exact ((forall_intro h1).trans pure_forall.2).trans (BI.pure_mono fun h b hb => h ⟨b, hb⟩)

/-- The program's run, over any float values: every unscoped array of every device ends at the contents above, every
    semaphore at zero. -/
theorem run_main [∀ e, Nonempty (Elt F e)] (ρ : Dev nD → PrngReg) (hA : ∀ d x, (ixA m d x).toNat < 100000) (hB : ∀ d x, (ixB m d x).toNat < 100000) :
    θ_run (Cert.KernelIdeal.defs (F := F)) (Cert.KernelIdeal.threads (F := F)) ⟨m, fun _ => 0, ρ⟩
      fun r => (∀ (d : Dev nD) (b : Ref sig .tc), (Proc.devRef (τ := τ) .tc b).isScoped = false → r.2.mem (lc d b) = W9 m d (Proc.devRef .tc b)) ∧ r.2.sem = fun _ => 0 :=
  SparseCore.Cfg.θ_run_sc_quiescent (K := K (F := F)) (D := D (F := F)) (𝒱 := 𝒱) (EH := EH) (P := P m (ixA m) (ixB m)) (A := ∅) facts v₀
    (fun q hq => match q with | 0 => nomatch hq | 1 => nomatch hq)
    (fun q _ => match q with | 0 => tileObl0 m (ixA m) (ixB m) hA | 1 => tileObl1 m (ixA m) (ixB m) hB)
    (fun q _ => SparseCore.Cfg.VecSplit.of_plain (vecSplit m (ixA m) (ixB m) q))
    m ρ main (fun d => dealt (F := F) d) (kept m) (u₀ (F := F)) (sep_elim_left.trans (hu₀ m)) (hmain m ρ) (fq m) (hfin m) _ (fun _ h hz => ⟨h, hz⟩)

end Cert.Proof.Run

end
-- ==== Proof.Pre.lean ====
/-
  What the preconditions say of the arguments: every session's row number is a row of the tables (`idx_of_in_range`,
  `idx_of_ok`); every float entry is a real number and no lambda weight is zero (`real_of_ok`).
-/
module

public import Idealize.ShloMosaic.Lib.ReduceAll
public import Idealize.ShloMosaic.Lib.Affine
public import Idealize.ShloMosaic.Lib.IdealHost
public import proofs.«01_k».proof.Proof.Gen.Pre_in_range
public import proofs.«01_k».proof.Proof.Gen.Pre_ok

@[expose] public section

noncomputable section

namespace Cert.Proof.Pre

open Idealize.ShloMosaic

variable {F : FTy → Type} [FloatOps F]

instance : Subsingleton (⟨0, ![]⟩ : Shape).Idx := ⟨fun _ _ => funext fun a => a.elim0⟩

/-- A word that is at least 0 and less than 100000, read signed, is less than 100000 read unsigned. -/
theorem lt_of_words (x : BitVec 32) (h0 : IntOp.cmpi .sge x 0#32 = 1#1) (h1 : IntOp.cmpi .slt x 100000#32 = 1#1) : x.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  rw [BitVec.toInt_eq_toNat_cond] at h0 h1
  have := x.isLt
  split at h0 <;> omega

section
variable [Cert.Pre_in_range.Facts]
open Cert.Pre_in_range

/-- `in_range` says that every session's row number is less than 100000. -/
theorem idx_of_in_range (a0 : IVec S8192 32) (a1 : FVec F S100000x128 .f32) (a2 : FVec F S1000x128 .f32)
    (a3 : FVec F S100000x128 .f32) (a4 : FVec F S50x128 .f32) (a5 : FVec F S50 .f32)
    (h : Cert.Pre_in_range.fn (F := F) a0 a1 a2 a3 a4 a5 = fun _ => 1#1) (j : S8192.Idx) : (a0 j).toNat < 100000 := by
  have e := congrFun h (fun a => a.elim0)
  have e' := Host.reduce_andi_all _ _ _ _ _ e j
  obtain ⟨h0, h1⟩ := IntOp.andi_eq_one.1 e'
  exact lt_of_words _ h0 h1
end

/-- An extended real whose absolute value is below the infinity is a real number. -/
theorem real_of_abs (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

/-- Two extended reals compared unequal are not equal. -/
theorem ne_of_cmp (x y : EReal) (h : Ideal.cmp .une x y = 1#1) : x ≠ y := by
  intro e
  simp [Ideal.cmp, e] at h

section
variable [Cert.Pre_ok.Facts]
open Cert.Pre_ok

/-- `ok` says that every session's row number is less than 100000, that every float entry is a real number, and that no
    lambda weight is zero. -/
theorem of_ok (a0 : IVec S8192 32) (a1 : FVec Ideal S100000x128 .f32) (a2 : FVec Ideal S1000x128 .f32)
    (a3 : FVec Ideal S100000x128 .f32) (a4 : FVec Ideal S50x128 .f32) (a5 : FVec Ideal S50 .f32)
    (h : Cert.Pre_ok.fn (F := Ideal) a0 a1 a2 a3 a4 a5 = fun _ => 1#1) :
    (∀ j, (a0 j).toNat < 100000) ∧ (∀ j, ∃ r : ℝ, a1 j = (r : EReal)) ∧ (∀ j, ∃ r : ℝ, a2 j = (r : EReal)) ∧
      (∀ j, ∃ r : ℝ, a3 j = (r : EReal)) ∧ (∀ j, ∃ r : ℝ, a4 j = (r : EReal)) ∧ (∀ j, ∃ r : ℝ, r ≠ 0 ∧ a5 j = (r : EReal)) := by
  have e := congrFun h (fun a => a.elim0)
  obtain ⟨e30, e33⟩ := IntOp.andi_eq_one.1 e
  obtain ⟨e25, e29⟩ := IntOp.andi_eq_one.1 e30
  obtain ⟨e20, e24⟩ := IntOp.andi_eq_one.1 e25
  obtain ⟨e15, e19⟩ := IntOp.andi_eq_one.1 e20
  obtain ⟨e10, e14⟩ := IntOp.andi_eq_one.1 e15
  obtain ⟨e5, e9⟩ := IntOp.andi_eq_one.1 e10
  refine ⟨fun j => ?_, fun j => real_of_abs _ (Host.reduce_andi_all _ _ _ _ _ e9 j), fun j => real_of_abs _ (Host.reduce_andi_all _ _ _ _ _ e14 j),
    fun j => real_of_abs _ (Host.reduce_andi_all _ _ _ _ _ e19 j), fun j => real_of_abs _ (Host.reduce_andi_all _ _ _ _ _ e24 j), fun j => ?_⟩
  · obtain ⟨h0, h1⟩ := IntOp.andi_eq_one.1 (Host.reduce_andi_all _ _ _ _ _ e5 j)
    exact lt_of_words _ h0 h1
  · obtain ⟨r, hr⟩ := real_of_abs _ (Host.reduce_andi_all _ _ _ _ _ e29 j)
    refine ⟨r, fun h0 => ?_, hr⟩
    have hne : a5 j ≠ Ideal.ofBits .f32 0x00000000#32 := ne_of_cmp _ _ (Host.reduce_andi_all _ _ _ _ _ e33 j)
    rw [Ideal.ofBits_zero_f32] at hne
    exact hne (by rw [hr, h0]; rfl)
end

end Cert.Proof.Pre

end
-- ==== Proof.Frames.lean ====
/-
  The frames: the kernel and the reference terminate without fault, their arguments unchanged and every counter at zero.
  The kernel's two frames are two readings of one run (`Run.run_main`).
-/
module

public import proofs.«01_k».proof.Defs
public import proofs.«01_k».proof.Proof.Main
public import proofs.«01_k».proof.Proof.Pre
public import proofs.«01_k».proof.Proof.Gen.Kernel
public import Idealize.ShloMosaic.Lib.Claim
public import proofs.«01_k».proof.Proof.Gen.ReferenceIdeal.Run

@[expose] public section

set_option maxRecDepth 16384

noncomputable section

namespace Cert.Proof.Run

open Cert.KernelIdeal Cert.KernelIdeal.Gen Cert.Proof.Sc
open Idealize.ShloMosaic Idealize.ShloMosaic.TcCoe Idealize.SL.Sem

variable {F : FTy → Type} [FloatOps F]

variable (m : (ℓ : Loc nD τ sig) → Buf (Elt F) ℓ)

/-- The first half's row numbers are entries of the first argument. -/
theorem ixA_mem (d : Dev nD) (x : S32x128.Idx) : ∃ j : S8192.Idx, ixA m d x = m (lc d main_arg0) j :=
  ⟨_, rfl⟩

/-- The second half's row numbers are entries of the first argument. -/
theorem ixB_mem (d : Dev nD) (x : S32x128.Idx) : ∃ j : S8192.Idx, ixB m d x = m (lc d main_arg0) j :=
  ⟨_, rfl⟩

/-- From row numbers in range, the program terminates, its arguments unchanged and every counter at zero. -/
theorem frame_main [∀ e, Nonempty (Elt F e)] (ρ : Dev nD → PrngReg) (h : ∀ d j, (m (lc d main_arg0) j).toNat < 100000) :
    θ_run (Cert.KernelIdeal.defs (F := F)) (Cert.KernelIdeal.threads (F := F)) ⟨m, fun _ => 0, ρ⟩ fun r => (∀ c : Dev nD,
      r.2.mem ((c.tc : Thread nD τ).loc main_v28) = W9 m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun _ hr => ⟨fun c => ⟨hr.1 c main_v28 rfl,
      (hr.1 c main_arg0 rfl).trans (W9_ne m c main_arg0 (by decide) (by decide) (by decide)),
      (hr.1 c main_arg1 rfl).trans (W9_ne m c main_arg1 (by decide) (by decide) (by decide)),
      (hr.1 c main_arg2 rfl).trans (W9_ne m c main_arg2 (by decide) (by decide) (by decide)),
      (hr.1 c main_arg3 rfl).trans (W9_ne m c main_arg3 (by decide) (by decide) (by decide)),
      (hr.1 c main_arg4 rfl).trans (W9_ne m c main_arg4 (by decide) (by decide) (by decide)),
      (hr.1 c main_arg5 rfl).trans (W9_ne m c main_arg5 (by decide) (by decide) (by decide))⟩, hr.2⟩)
    (run_main m ρ (fun d x => by obtain ⟨j, e⟩ := ixA_mem m d x; rw [e]; exact h d j)
      (fun d x => by obtain ⟨j, e⟩ := ixB_mem m d x; rw [e]; exact h d j))

/-- The kernel's frame, its floats read as extended reals. -/
theorem frame_ideal : Cert.quiescent_KernelIdeal (hKernelIdeal := Cert.KernelIdeal.Gen.facts) (hPre_in_range := Cert.Pre_in_range.Gen.facts) :=
  fun m ρ hp => (θ_run (Cert.KernelIdeal.defs (F := Ideal)) _ _).mono (fun _ hr => ⟨fun c => (hr.1 c).2, hr.2⟩)
    (frame_main (F := Ideal) m ρ fun d j => Pre.idx_of_in_range _ _ _ _ _ _ (hp d) j)

/-- The same under the equation's precondition. -/
theorem frame_ideal_ok : Cert.quiescent_KernelIdeal_pre_ok (hKernelIdeal := Cert.KernelIdeal.Gen.facts) (hPre_ok := Cert.Pre_ok.Gen.facts) :=
  fun m ρ hp => (θ_run (Cert.KernelIdeal.defs (F := Ideal)) _ _).mono (fun _ hr => ⟨fun c => (hr.1 c).2, hr.2⟩)
    (frame_main (F := Ideal) m ρ fun d j => (Pre.of_ok _ _ _ _ _ _ (hp d)).1 j)

end Cert.Proof.Run

end
-- ==== Proof.Same.lean ====
/-
  The kernel's program and the program read at extended reals have the same text: their body tables and their threads are
  equal, over any float values.
-/
module

public import proofs.«01_k».proof.Proof.Gen.Kernel
public import proofs.«01_k».proof.Proof.Gen.KernelIdeal

@[expose] public section

set_option maxRecDepth 16384
set_option maxHeartbeats 1000000

noncomputable section

namespace Cert.Proof.Same

open Idealize.ShloMosaic

variable {F : FTy → Type} [FloatOps F]

/-- The kernels' bodies, one label of one processor at a time. -/
theorem bodies_eq : Cert.Kernel.defs₀ (F := F) = Cert.KernelIdeal.defs₀ (F := F) := by
  funext p l a
  match p, l, a with
  | .scVector c s, ⟨0, _⟩, a => rfl
  | .scVector c s, ⟨1, _⟩, a => rfl
  | .scVector c s, ⟨2, _⟩, a => rfl
  | .scVector c s, ⟨3, _⟩, a => rfl
  | .tc, ⟨0, _⟩, a => rfl
  | .tc, ⟨1, _⟩, a => rfl
  | .tc, ⟨2, _⟩, a => rfl
  | .tc, ⟨3, _⟩, a => rfl
  | .scScalar c, ⟨0, _⟩, a => rfl
  | .scScalar c, ⟨1, _⟩, a => rfl
  | .scScalar c, ⟨2, _⟩, a => rfl
  | .scScalar c, ⟨3, _⟩, a => rfl

/-- The body tables. -/
theorem defs_eq : Cert.Kernel.defs (F := F) = Cert.KernelIdeal.defs (F := F) := by
  unfold Cert.Kernel.defs
  rw [bodies_eq]
  rfl

theorem main_eq : Cert.Kernel.main (F := F) = Cert.KernelIdeal.main (F := F) := rfl

/-- The threads. -/
theorem threads_eq : Cert.Kernel.threads (F := F) = Cert.KernelIdeal.threads (F := F) := by
  unfold Cert.Kernel.threads
  rw [main_eq]
  rfl

end Cert.Proof.Same

end
-- ==== Proof.FrameKernel.lean ====
/-
  The kernel's frame, its floats read as bit patterns: the one run (`Run.frame_main`), at bit patterns.
-/
module

public import proofs.«01_k».proof.Proof.Frames
public import proofs.«01_k».proof.Proof.Same

@[expose] public section

set_option maxRecDepth 16384

noncomputable section

namespace Cert.Proof.Run

open Idealize.ShloMosaic Idealize.ShloMosaic.TcCoe Idealize.SL.Sem

/-- The kernel's frame, its floats read as bit patterns. -/
theorem frame_kernel : Cert.quiescent_Kernel (hKernel := Cert.Kernel.Gen.facts) (hPre_in_range := Cert.Pre_in_range.Gen.facts) := by
  intro m ρ hp
  rw [Same.defs_eq, Same.threads_eq]
  exact (θ_run (Cert.KernelIdeal.defs (F := Bits)) (Cert.KernelIdeal.threads (F := Bits)) ⟨m, fun _ => 0, ρ⟩).mono
    (fun r hr => ⟨fun c => (hr.1 c).2, hr.2⟩)
    (frame_main (F := Bits) m ρ fun d j => Pre.idx_of_in_range _ _ _ _ _ _ (hp d) j)

end Cert.Proof.Run

end
-- ==== Proof.FrameRef.lean ====
/-
  The reference's frames: it terminates without fault, its arguments unchanged and every counter at zero.
-/
module

public import proofs.«01_k».proof.Defs
public import Idealize.ShloMosaic.Lib.Claim
public import proofs.«01_k».proof.Proof.Gen.ReferenceIdeal.Run
public import proofs.«01_k».proof.Proof.Gen.Pre_ok

@[expose] public section

set_option maxRecDepth 16384

noncomputable section

namespace Cert.Proof.Run

open Idealize.ShloMosaic Idealize.ShloMosaic.TcCoe Idealize.SL.Sem

/-- The reference's frame. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The same under the equation's precondition. -/
theorem frame_reference_ok : Cert.quiescent_ReferenceIdeal_pre_ok (hReferenceIdeal := Cert.ReferenceIdeal.Gen.facts) (hPre_ok := Cert.Pre_ok.Gen.facts) :=
  fun m ρ _ => frame_reference m ρ trivial

end Cert.Proof.Run

end
-- ==== Proof.Model.lean ====
/-
  The layer's mathematics over the real numbers, and how the extended reals' operations meet it at real arguments.
-/
module

public import Idealize.ShloMosaic.Lib.Pointwise

@[expose] public section

noncomputable section

namespace Cert.Proof.Value

open Idealize.ShloMosaic

/-! ## The nested logit's quantities -/

/-- The category of item `i`: twenty consecutive items to a category. -/
def cat (i : Fin 1000) : Fin 50 := ⟨i / 20, by omega⟩

/-- The `g`-th item of category `c`. -/
def item (c : Fin 50) (g : Fin 20) : Fin 1000 := ⟨c * 20 + g, by omega⟩

/-- The row of a table that a word names. -/
def tableRow (w : BitVec 32) : Fin 100000 := ⟨w.toNat % 100000, Nat.mod_lt _ (by decide)⟩

/-- The session whose inclusive values the `j`-th summand of the normaliser reads: the `j`-th category's first item. -/
def sess (j : Fin 50) : Fin 8192 := ⟨j * 20, by omega⟩

/-- The utility of item `i` to a session with row `u`, on the scale of the item's category. -/
def util (A : Fin 1000 → Fin 128 → ℝ) (lam : Fin 50 → ℝ) (u : Fin 128 → ℝ) (i : Fin 1000) : ℝ :=
  (∑ d, u d * A i d) / lam (cat i)

/-- The inclusive value of category `c`: the log-sum-exp of its items' utilities. -/
def incl (A : Fin 1000 → Fin 128 → ℝ) (lam : Fin 50 → ℝ) (u : Fin 128 → ℝ) (c : Fin 50) : ℝ :=
  Real.log (∑ g, Real.exp (util A lam u (item c g)))

/-- The category part of the utility. -/
def catUtil (D : Fin 50 → Fin 128 → ℝ) (t : Fin 128 → ℝ) (c : Fin 50) : ℝ := ∑ d, t d * D c d

/-- The upper level's score of category `c`. -/
def score (A : Fin 1000 → Fin 128 → ℝ) (D : Fin 50 → Fin 128 → ℝ) (lam : Fin 50 → ℝ) (u t : Fin 128 → ℝ) (c : Fin 50) : ℝ :=
  catUtil D t c + lam c * incl A lam u c

/-- The normaliser of category `c`: the log-sum-exp of its scores over the sessions that `sess` names. -/
def norm (A : Fin 1000 → Fin 128 → ℝ) (D : Fin 50 → Fin 128 → ℝ) (lam : Fin 50 → ℝ) (U T : Fin 8192 → Fin 128 → ℝ) (c : Fin 50) : ℝ :=
  Real.log (∑ j, Real.exp (score A D lam (U (sess j)) (T (sess j)) c))

/-- The log-probability of item `i` in session `s`. -/
def logProb (A : Fin 1000 → Fin 128 → ℝ) (D : Fin 50 → Fin 128 → ℝ) (lam : Fin 50 → ℝ) (U T : Fin 8192 → Fin 128 → ℝ)
    (s : Fin 8192) (i : Fin 1000) : ℝ :=
  (util A lam (U s) i - incl A lam (U s) (cat i)) + (score A D lam (U s) (T s) (cat i) - norm A D lam U T (cat i))

/-! ## Sums and maxima of reals in the extended reals -/

/-- A finite sum of reals, taken in the extended reals, is the real sum. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The maximum of finitely many reals, at least one, begun from `⊥`, is a real. -/
theorem max_real {n : ℕ} (hn : 0 < n) (f : Fin n → ℝ) :
    ∃ r : ℝ, Finset.univ.fold max (⊥ : EReal) (fun k => ((f k : ℝ) : EReal)) = (r : EReal) := by
  have key : ∀ s : Finset (Fin n), s.fold max (⊥ : EReal) (fun k => ((f k : ℝ) : EReal)) = ⊥ ∧ s = ∅
      ∨ ∃ r : ℝ, s.fold max (⊥ : EReal) (fun k => ((f k : ℝ) : EReal)) = (r : EReal) := by
    intro s
    induction s using Finset.induction_on with
    | empty => exact Or.inl ⟨rfl, rfl⟩
    | insert a s ha ih =>
      refine Or.inr ?_
      rw [Finset.fold_insert ha]
      rcases ih with ⟨h, -⟩ | ⟨r, h⟩
      · exact ⟨f a, by rw [h]; exact max_eq_left bot_le⟩
      · exact ⟨max (f a) r, by rw [h]; exact (EReal.coe_strictMono.monotone.map_max).symm⟩
  rcases key Finset.univ with ⟨-, h⟩ | h
  · exact absurd h (Finset.Nonempty.ne_empty ⟨⟨0, hn⟩, Finset.mem_univ _⟩)
  · exact h

/-- The logarithm of a positive real. -/
theorem log_real {r : ℝ} (h : 0 < r) : Ideal.log (r : EReal) = (Real.log r : EReal) := by
  rw [Ideal.log_coe, if_neg (not_le.mpr h)]

/-- A log-sum-exp does not depend on the number that its summands are shifted by. -/
theorem shift_lse {n : ℕ} (hn : 0 < n) (f : Fin n → ℝ) (m : ℝ) :
    m + Real.log (∑ k, Real.exp (f k - m)) = Real.log (∑ k, Real.exp (f k)) := by
  have hpos : 0 < ∑ k, Real.exp (f k) := Finset.sum_pos (fun _ _ => Real.exp_pos _) ⟨⟨0, hn⟩, Finset.mem_univ _⟩
  have e : ∑ k, Real.exp (f k - m) = (∑ k, Real.exp (f k)) * Real.exp (-m) := by
    rw [Finset.sum_mul]
    exact Finset.sum_congr rfl fun k _ => by rw [← Real.exp_add, sub_eq_add_neg]
  rw [e, Real.log_mul hpos.ne' (Real.exp_ne_zero _), Real.log_exp]
  ring

/-- The same in the extended reals, for a maximum as the shift: what both programs compute. -/
theorem lse_real {n : ℕ} (hn : 0 < n) (f : Fin n → ℝ) (m : ℝ) :
    (m : EReal) + Ideal.log (∑ k, Ideal.exp ((f k : EReal) - (m : EReal)))
      = ((Real.log (∑ k, Real.exp (f k)) : ℝ) : EReal) := by
  have hpos : 0 < ∑ k, Real.exp (f k - m) := Finset.sum_pos (fun _ _ => Real.exp_pos _) ⟨⟨0, hn⟩, Finset.mem_univ _⟩
  have e : ∀ k, Ideal.exp ((f k : EReal) - (m : EReal)) = ((Real.exp (f k - m) : ℝ) : EReal) := fun k => by
    rw [← EReal.coe_sub, Ideal.exp_coe]
  simp only [e]
  rw [coe_sum, log_real hpos, ← EReal.coe_add, shift_lse hn]

/-- The sum over all items of a quantity counted only in category `c` is the sum over the category's items. -/
theorem sum_cat (f : Fin 1000 → ℝ) (c : Fin 50) :
    ∑ i, (if cat i = c then (1 : ℝ) else 0) * f i = ∑ g, f (item c g) := by
  simp only [ite_mul, one_mul, zero_mul]
  rw [← Finset.sum_filter]
  symm
  refine Finset.sum_bij (fun g _ => item c g) ?_ ?_ ?_ ?_
  · intro g _
    refine Finset.mem_filter.mpr ⟨Finset.mem_univ _, Fin.ext ?_⟩
    show (c * 20 + g : ℕ) / 20 = c
    omega
  · intro a _ b _ h
    have := congrArg Fin.val h
    refine Fin.ext ?_
    change (c * 20 + a : ℕ) = c * 20 + b at this
    omega
  · intro i hi
    have hc := congrArg Fin.val (Finset.mem_filter.mp hi).2
    change (i / 20 : ℕ) = c at hc
    exact ⟨⟨i % 20, by omega⟩, Finset.mem_univ _, Fin.ext (by show (c * 20 + i % 20 : ℕ) = i; omega)⟩
  · intro g _
    rfl

/-- A sum that counts one category only is that category's summand. -/
theorem sum_pick {n : ℕ} (f : Fin n → ℝ) (k : Fin n) : ∑ c, (if k = c then (1 : ℝ) else 0) * f c = f k := by
  simp only [ite_mul, one_mul, zero_mul, Finset.sum_ite_eq, Finset.mem_univ, if_true]

/-- Dividing an item's number by twenty and rounding down, as both programs spell it on 32-bit words, gives its category. -/
theorem floor_twenty (i : Fin 1000) :
    Scalar.select
      (IntOp.andi
        (IntOp.cmpi CmpIPredicate.ne (if BitVec.ofNat 32 i = 0 then (0 : BitVec 32) else if (BitVec.ofNat 32 i).msb = true then -1 else 1)
          (if (20#32 : BitVec 32) = 0 then (0 : BitVec 32) else if BitVec.msb 20#32 = true then -1 else 1))
        (IntOp.cmpi CmpIPredicate.ne (IntOp.remsi ArithUnit.host (BitVec.ofNat 32 i) 20#32) 0#32))
      (IntOp.subi (IntOp.divsi ArithUnit.host (BitVec.ofNat 32 i) 20#32) 1#32)
      (IntOp.divsi ArithUnit.host (BitVec.ofNat 32 i) 20#32) = BitVec.ofNat 32 (i / 20) := by
  revert i
  decide +kernel

end Cert.Proof.Value

end
-- ==== Proof.KerHost.lean ====
/-
  What the arrays hold when the fused calls begin, at an index: the rows that the two gathers brought, and the
  coefficients and the mask that the host computes.
-/
module

public import proofs.«01_k».proof.Proof.Main
public import proofs.«01_k».proof.Proof.Model
public import Idealize.ShloMosaic.Lib.StableHlo.ReadAt
public import Idealize.ShloMosaic.Lib.WordCmp

@[expose] public section

set_option maxRecDepth 16384

noncomputable section

namespace Cert.Proof.Value

open Cert.KernelIdeal Cert.KernelIdeal.Gen Cert.Proof.Sc Cert.Proof.Tc Cert.Proof.Run
open Idealize.ShloMosaic Idealize.ShloMosaic.TcCoe
open Idealize.ShloMosaic.StableHlo (after)

variable (m : (ℓ : Loc nD τ sig) → Buf (Elt Ideal) ℓ) (d : Dev nD)

/-- An array that nothing before the coefficients writes, when they are computed. -/
theorem W4_ne (b : Ref sig .tc) (h : b ∉ wrA ++ [main_v2_0, main_v2_1] ++ wrB) (h' : b ∉ [main_v4_0, main_v4_1]) :
    W4 m d (Proc.devRef .tc b) = m (lc d b) := by
  simp only [List.mem_cons, not_or] at h'
  unfold W4
  rw [put_ne _ _ _ _ h'.2.1, put_ne _ _ _ _ h'.1]
  exact W3_ne m d b h

/-- The first half's row numbers, laid out by 128; -/
theorem v1_at (a : Fin 32) (b : Fin 128) :
    W1 m d (Proc.devRef .tc main_v1) (ix2 a b) = m (lc d main_arg0) (ix1 ⟨a * 128 + b, by omega⟩) := by
  unfold W1
  after_reads_at
  rfl

/-- and the second half's. -/
theorem v3_at (a : Fin 32) (b : Fin 128) :
    W3 m d (Proc.devRef .tc main_v3) (ix2 a b) = m (lc d main_arg0) (ix1 ⟨(32 + a) * 128 + b, by omega⟩) := by
  unfold W3
  after_reads_at
  unfold W2
  rw [put_ne _ _ _ _ (by decide), put_ne _ _ _ _ (by decide)]
  unfold W1
  after_reads_at
  rfl

/-- The six arguments, with plain types. -/
abbrev aIdx : S8192.Idx → BitVec 32 := m (lc d main_arg0)
abbrev aItems : S100000x128.Idx → EReal := m (lc d main_arg1)
abbrev aAlpha : S1000x128.Idx → EReal := m (lc d main_arg2)
abbrev aCats : S100000x128.Idx → EReal := m (lc d main_arg3)
abbrev aBeta : S50x128.Idx → EReal := m (lc d main_arg4)
abbrev aLam : S50.Idx → EReal := m (lc d main_arg5)

/-- The row of the item table that session `s` names; -/
def uRow (s : Fin 8192) (e : Fin 128) : EReal :=
  aItems m d (ix2 (tableRow (aIdx m d (ix1 s))) e)
/-- and of the category table. -/
def tRow (s : Fin 8192) (e : Fin 128) : EReal :=
  aCats m d (ix2 (tableRow (aIdx m d (ix1 s))) e)

/-- A row of the gather, when the numbers are known. -/
theorem gath_at (T : S100000x128.Idx → EReal) (ix : S32x128.Idx → BitVec 32) (x : S8192.Idx → BitVec 32) (o : ℕ) (ho : o ≤ 32)
    (hx : ∀ (a : Fin 32) (b : Fin 128), ix (ix2 a b) = x (ix1 ⟨(o + a) * 128 + b, by omega⟩)) (r : Fin 4096) (e : Fin 128) :
    gath T ix (ix2 r e) = T (ix2 (tableRow (x (ix1 ⟨o * 128 + r, by omega⟩))) e) := by
  have h : ix (ix2 ⟨r / 128, by omega⟩ ⟨r % 128, by omega⟩) = x (ix1 ⟨o * 128 + r, by omega⟩) := by
    rw [hx]
    congr 2
    exact Fin.ext (by show (o + r.val / 128) * 128 + r.val % 128 = o * 128 + r.val; omega)
  unfold gath rowAt
  exact congrArg (fun w => T (ix2 (tableRow w) e)) h

/-- The first half's gathered rows. -/
theorem v2_0_at (r : Fin 4096) (e : Fin 128) :
    W5 m d (Proc.devRef .tc main_v2_0) (ix2 r e) = uRow m d ⟨r, by omega⟩ e := by
  rw [show W5 m d (Proc.devRef .tc main_v2_0) = W4 m d (Proc.devRef .tc main_v2_0) from StableHlo.after_unwritten wrC writesC (by decide) _]
  unfold W4
  rw [put_ne _ _ _ _ (by decide), put_ne _ _ _ _ (by decide),
    show W3 m d (Proc.devRef .tc main_v2_0) = W2 m d (Proc.devRef .tc main_v2_0) from StableHlo.after_unwritten wrB writesB (by decide) _]
  unfold W2
  rw [put_ne _ _ _ _ (by decide), put_self, W1_ne m d main_arg1 (by decide)]
  refine (gath_at (aItems m d) _ (aIdx m d) 0 (by omega) (fun a b => (v1_at m d a b).trans ?_) r e).trans ?_
  · simp only [Nat.zero_add]
  · simp only [Nat.zero_mul, Nat.zero_add]; rfl
theorem v2_1_at (r : Fin 4096) (e : Fin 128) :
    W5 m d (Proc.devRef .tc main_v2_1) (ix2 r e) = tRow m d ⟨r, by omega⟩ e := by
  rw [show W5 m d (Proc.devRef .tc main_v2_1) = W4 m d (Proc.devRef .tc main_v2_1) from StableHlo.after_unwritten wrC writesC (by decide) _]
  unfold W4
  rw [put_ne _ _ _ _ (by decide), put_ne _ _ _ _ (by decide),
    show W3 m d (Proc.devRef .tc main_v2_1) = W2 m d (Proc.devRef .tc main_v2_1) from StableHlo.after_unwritten wrB writesB (by decide) _]
  unfold W2
  rw [put_self, W1_ne m d main_arg3 (by decide)]
  refine (gath_at (aCats m d) _ (aIdx m d) 0 (by omega) (fun a b => (v1_at m d a b).trans ?_) r e).trans ?_
  · simp only [Nat.zero_add]
  · simp only [Nat.zero_mul, Nat.zero_add]; rfl

/-- The second half's gathered rows. -/
theorem v4_0_at (r : Fin 4096) (e : Fin 128) :
    W5 m d (Proc.devRef .tc main_v4_0) (ix2 r e) = uRow m d ⟨4096 + r, by omega⟩ e := by
  rw [show W5 m d (Proc.devRef .tc main_v4_0) = W4 m d (Proc.devRef .tc main_v4_0) from StableHlo.after_unwritten wrC writesC (by decide) _]
  unfold W4
  rw [put_ne _ _ _ _ (by decide), put_self, W3_ne m d main_arg1 (by decide)]
  exact gath_at (aItems m d) _ (aIdx m d) 32 (by omega) (v3_at m d) r e
theorem v4_1_at (r : Fin 4096) (e : Fin 128) :
    W5 m d (Proc.devRef .tc main_v4_1) (ix2 r e) = tRow m d ⟨4096 + r, by omega⟩ e := by
  rw [show W5 m d (Proc.devRef .tc main_v4_1) = W4 m d (Proc.devRef .tc main_v4_1) from StableHlo.after_unwritten wrC writesC (by decide) _]
  unfold W4
  rw [put_self, W3_ne m d main_arg3 (by decide)]
  exact gath_at (aCats m d) _ (aIdx m d) 32 (by omega) (v3_at m d) r e

/-- The factor `λ − 1`; -/
theorem v7_at (a : Fin 50) : W5 m d (Proc.devRef .tc main_v7) (ix2 a 0) = aLam m d (ix1 a) - 1 := by
  unfold W5
  after_reads_at
  rw [W4_ne m d main_arg5 (by decide) (by decide)]
/-- the items' vectors over their category's `λ`; -/
theorem v15_at (a : Fin 1000) (b : Fin 128) :
    W5 m d (Proc.devRef .tc main_v15) (ix2 a b) = aAlpha m d (ix2 a b) * Ideal.div 1 (aLam m d (ix1 (cat a))) := by
  unfold W5
  after_reads_at
  rw [W4_ne m d main_arg5 (by decide) (by decide), W4_ne m d main_arg2 (by decide) (by decide)]
  rfl
/-- the categories' vectors; -/
theorem v16_at (a : Fin 50) (b : Fin 128) : W5 m d (Proc.devRef .tc main_v16) (ix2 a b) = aBeta m d (ix2 a b) := by
  unfold W5
  after_reads_at
  rw [W4_ne m d main_arg4 (by decide) (by decide)]
/-- and the mask of which item is of which category. -/
theorem v25_at (a : Fin 50) (b : Fin 1000) :
    W5 m d (Proc.devRef .tc main_v25) (ix2 a b) = (((if cat b = a then 1 else 0 : ℝ)) : EReal) := by
  unfold W5
  after_reads_at
  refine (congrArg (fun w => FloatOps.uitofp (F := Ideal) FTy.bf16 (IntOp.cmpi CmpIPredicate.eq w (BitVec.ofNat 32 a))) (floor_twenty b)).trans ?_
  rw [Idealize.ShloMosaic.WordCmp.cmpi_eq_eq]
  by_cases h : cat b = a
  · rw [if_pos h, ← h]
    simp [cat, FloatOps.uitofp]
  · have h' : ¬ BitVec.ofNat 32 (b.val / 20) = BitVec.ofNat 32 a.val := fun e => h (Fin.ext (by
      have := congrArg BitVec.toNat e
      rw [BitVec.toNat_ofNat, BitVec.toNat_ofNat, Nat.mod_eq_of_lt (by omega), Nat.mod_eq_of_lt (by omega)] at this
      exact this))
    rw [if_neg h, decide_eq_false h']
    simp [FloatOps.uitofp]

end Cert.Proof.Value

end
-- ==== Proof.KerBlock.lean ====
/-
  What the dense part's two bodies compute from one block of 1024 sessions, at each index, over the reals.
-/
module

public import proofs.«01_k».proof.Proof.Gen.KernelIdeal.Skeleton
public import proofs.«01_k».proof.Proof.Model

@[expose] public section

set_option maxRecDepth 16384

noncomputable section

namespace Cert.Proof.Value

open Idealize.ShloMosaic Cert.KernelIdeal Cert.KernelIdeal.Gen

/-- The bit pattern that a maximum starts from denotes `⊥`. -/
theorem start_max : Ideal.ofBits FTy.f32 0xFF800000#32 = (⊥ : EReal) := by
  simp [Ideal.ofBits, Ideal.ieee]

/-- The mask that picks every twentieth session, at an index. -/
theorem every_twentieth {α : Type} (x : Fin 1024) (j : Fin 50) (a b : α) :
    Scalar.select (IntOp.cmpi CmpIPredicate.eq (BitVec.ofNat 32 x) (IntOp.muli (20#32) (BitVec.ofNat 32 j))) a b
      = if x = (⟨j * 20, by omega⟩ : Fin 1024) then a else b := by
  have e : (BitVec.ofNat 32 x = 20#32 * BitVec.ofNat 32 j) ↔ x = (⟨j * 20, by omega⟩ : Fin 1024) := by
    rw [← BitVec.toNat_inj, Fin.ext_iff]
    simp only [BitVec.toNat_mul, BitVec.toNat_ofNat]
    omega
  by_cases h : x = (⟨j * 20, by omega⟩ : Fin 1024)
  · rw [if_pos h]
    simp [Scalar.select, IntOp.cmpi, IntOp.muli, e.mpr h]
  · rw [if_neg h]
    have h' : (BitVec.ofNat 32 x == 20#32 * BitVec.ofNat 32 j) = false := beq_eq_false_iff_ne.mpr fun hh => h (e.mp hh)
    simp [Scalar.select, IntOp.cmpi, IntOp.muli, h']

section

variable (v0 v3 : Vec Ideal S1024x128 .f32) (v6 : Vec Ideal S1000x128 .bf16) (v11 : Vec Ideal S50x1000 .bf16)
  (v15 : Vec Ideal S50x128 .bf16) (v18 v25 : Vec Ideal S50x1 .f32)
variable {A : Fin 1000 → Fin 128 → ℝ} {D : Fin 50 → Fin 128 → ℝ} {lam : Fin 50 → ℝ}

/-- The exponentials of a session's utilities. -/
theorem exps_at {r : Fin 1024} {u : Fin 128 → ℝ} (h0 : ∀ d, v0 (ix2 r d) = ((u d : ℝ) : EReal))
    (h6 : ∀ i d, v6 (ix2 i d) = ((A i d * (1 / lam (cat i)) : ℝ) : EReal)) (i : Fin 1000) :
    k2_pay2 v0 v6 (ix2 i r) = ((Real.exp (util A lam u i) : ℝ) : EReal) := by
  pointwise [k2_pay2]
  simp only [h0, h6, ← EReal.coe_mul]
  rw [coe_sum, Ideal.exp_coe]
  congr 2
  rw [util, Finset.sum_div]
  exact Finset.sum_congr rfl fun d _ => by ring

/-- The inclusive values of a session. -/
theorem incl_at {r : Fin 1024} {u : Fin 128 → ℝ} (h0 : ∀ d, v0 (ix2 r d) = ((u d : ℝ) : EReal))
    (h6 : ∀ i d, v6 (ix2 i d) = ((A i d * (1 / lam (cat i)) : ℝ) : EReal))
    (h11 : ∀ c i, v11 (ix2 c i) = (((if cat i = c then 1 else 0 : ℝ)) : EReal)) (c : Fin 50) :
    k2_pay3 v0 v6 v11 (ix2 c r) = ((incl A lam u c : ℝ) : EReal) := by
  pointwise [k2_pay3]
  simp only [exps_at v0 v6 h0 h6, h11, ← EReal.coe_mul]
  rw [coe_sum, sum_cat, log_real (Finset.sum_pos (fun _ _ => Real.exp_pos _) ⟨0, Finset.mem_univ _⟩)]
  rfl

/-- The category utilities of a session. -/
theorem catUtil_at {r : Fin 1024} {t : Fin 128 → ℝ} (h3 : ∀ d, v3 (ix2 r d) = ((t d : ℝ) : EReal))
    (h15 : ∀ c d, v15 (ix2 c d) = ((D c d : ℝ) : EReal)) (c : Fin 50) :
    k2_pay4 v3 v15 (ix2 c r) = ((catUtil D t c : ℝ) : EReal) := by
  pointwise [k2_pay4]
  simp only [h3, h15, ← EReal.coe_mul]
  rw [coe_sum]
  congr 1
  exact Finset.sum_congr rfl fun d _ => by ring

/-- The part of the log-probability that a category's items share. -/
theorem shared_at {r : Fin 1024} {u t : Fin 128 → ℝ} {M : Fin 50 → ℝ} (h0 : ∀ d, v0 (ix2 r d) = ((u d : ℝ) : EReal))
    (h3 : ∀ d, v3 (ix2 r d) = ((t d : ℝ) : EReal))
    (h6 : ∀ i d, v6 (ix2 i d) = ((A i d * (1 / lam (cat i)) : ℝ) : EReal))
    (h11 : ∀ c i, v11 (ix2 c i) = (((if cat i = c then 1 else 0 : ℝ)) : EReal))
    (h15 : ∀ c d, v15 (ix2 c d) = ((D c d : ℝ) : EReal)) (h18 : ∀ c, v18 (ix2 c 0) = ((lam c - 1 : ℝ) : EReal))
    (h25 : ∀ c, v25 (ix2 c 0) = ((M c : ℝ) : EReal)) (c : Fin 50) :
    k2_pay7 v0 v3 v6 v11 v15 v18 v25 (ix2 c r) = ((catUtil D t c + (lam c - 1) * incl A lam u c - M c : ℝ) : EReal) := by
  pointwise [k2_pay7, k2_pay5]
  rw [catUtil_at v3 v15 h3 h15, incl_at v0 v6 v11 h0 h6 h11, h18, h25, ← EReal.coe_mul, ← EReal.coe_add, ← EReal.coe_sub]

/-- The block's log-probabilities, with the normaliser read from a column `M`. -/
theorem out_at {r : Fin 1024} {u t : Fin 128 → ℝ} {M : Fin 50 → ℝ} (h0 : ∀ d, v0 (ix2 r d) = ((u d : ℝ) : EReal))
    (h3 : ∀ d, v3 (ix2 r d) = ((t d : ℝ) : EReal))
    (h6 : ∀ i d, v6 (ix2 i d) = ((A i d * (1 / lam (cat i)) : ℝ) : EReal))
    (h11 : ∀ c i, v11 (ix2 c i) = (((if cat i = c then 1 else 0 : ℝ)) : EReal))
    (h15 : ∀ c d, v15 (ix2 c d) = ((D c d : ℝ) : EReal)) (h18 : ∀ c, v18 (ix2 c 0) = ((lam c - 1 : ℝ) : EReal))
    (h25 : ∀ c, v25 (ix2 c 0) = ((M c : ℝ) : EReal)) (i : Fin 1000) :
    k2_pay1 (k2_pay2 v0 v6) (k2_pay7 v0 v3 v6 v11 v15 v18 v25) v11 (ix2 i r)
      = (((util A lam u i - incl A lam u (cat i)) + (score A D lam u t (cat i) - M (cat i)) : ℝ) : EReal) := by
  pointwise [k2_pay1]
  simp only [exps_at v0 v6 h0 h6, shared_at v0 v3 v6 v11 v15 v18 v25 h0 h3 h6 h11 h15 h18 h25, h11, ← EReal.coe_mul]
  rw [coe_sum, sum_pick, log_real (Real.exp_pos _), Real.log_exp, ← EReal.coe_add]
  congr 1
  rw [score]
  ring

/-- The second body's block is the first body's, at the column it reads. -/
theorem body_b_eq : k3_pay1 v0 v3 v6 v11 v15 v18 v25 v11 = k2_pay1 (k2_pay2 v0 v6) (k2_pay7 v0 v3 v6 v11 v15 v18 v25) v11 := by
  funext j
  idx_vars j
  pointwise [k3_pay1, k2_pay1, k2_pay2, k2_pay7, k2_pay3, k2_pay4, k2_pay5]

/-- The normaliser's column, from the first block of sessions. -/
theorem norm_at {u t : Fin 1024 → Fin 128 → ℝ} (h0 : ∀ r d, v0 (ix2 r d) = ((u r d : ℝ) : EReal))
    (h3 : ∀ r d, v3 (ix2 r d) = ((t r d : ℝ) : EReal))
    (h6 : ∀ i d, v6 (ix2 i d) = ((A i d * (1 / lam (cat i)) : ℝ) : EReal))
    (h11 : ∀ c i, v11 (ix2 c i) = (((if cat i = c then 1 else 0 : ℝ)) : EReal))
    (h15 : ∀ c d, v15 (ix2 c d) = ((D c d : ℝ) : EReal)) (h18 : ∀ c, v18 (ix2 c 0) = ((lam c - 1 : ℝ) : EReal)) (c : Fin 50) :
    k2_pay6 v0 v3 v6 v11 v15 v18 (ix2 c 0)
      = ((Real.log (∑ j : Fin 50, Real.exp (score A D lam (u ⟨j * 20, by omega⟩) (t ⟨j * 20, by omega⟩) c)) : ℝ) : EReal) := by
  have hs : ∀ r, k2_pay4 v3 v15 (ix2 c r) + (v18 (ix2 c 0) + 1) * k2_pay3 v0 v6 v11 (ix2 c r)
      = ((score A D lam (u r) (t r) c : ℝ) : EReal) := fun r => by
    rw [catUtil_at v3 v15 (h3 r) h15, incl_at v0 v6 v11 (h0 r) h6 h11, h18, ← EReal.coe_one, ← EReal.coe_add, ← EReal.coe_mul,
      ← EReal.coe_add]
    congr 1
    rw [score]
    ring
  pointwise [k2_pay6, k2_pay5]
  simp only [every_twentieth, hs, Finset.sum_ite_eq', Finset.mem_univ, if_true, start_max]
  obtain ⟨m, hm⟩ := max_real (n := 50) (by decide) fun j => score A D lam (u ⟨j * 20, by omega⟩) (t ⟨j * 20, by omega⟩) c
  rw [hm]
  exact lse_real (by decide) _ m

end

end Cert.Proof.Value

end
-- ==== Proof.KerArray.lean ====
/-
  What the two fused calls leave in their arrays: the log-probabilities of the first 4096 sessions and the
  normaliser's column, then the log-probabilities of the others.
-/
module

public import proofs.«01_k».proof.Proof.RegionB
public import proofs.«01_k».proof.Proof.KerBlock
public import Idealize.ShloMosaic.Lib.Pipeline.ValueKit

@[expose] public section

set_option maxRecDepth 16384

noncomputable section

namespace Cert.Proof.Value

open Cert.KernelIdeal Cert.KernelIdeal.Gen Cert.Proof.Sc Cert.Proof.Tc
open Idealize.ShloMosaic Idealize.ShloMosaic.TcCoe

variable (V : Vals Ideal) (c : Dev nD)

/-! ## The blocks that a point reads -/

/-- Every window's block at a point of the first call; -/
theorem idxA : ∀ t : Fin cfg2.N, win2_0.index t = ![0, 0] ∧ win2_1.index t = ![t.val, 0] ∧ win2_2.index t = ![t.val, 0]
    ∧ win2_3.index t = ![0, 0] ∧ win2_4.index t = ![0, 0] ∧ win2_5.index t = ![0, 0] ∧ win2_6.index t = ![0, t.val] ∧ win2_7.index t = ![0, 0] :=
  (by decide +kernel : ∀ t : Fin grid2.N, _)
/-- and of the second. -/
theorem idxB : ∀ t : Fin cfg3.N, win3_0.index t = ![0, 0] ∧ win3_1.index t = ![t.val, 0] ∧ win3_2.index t = ![t.val, 0]
    ∧ win3_3.index t = ![0, 0] ∧ win3_4.index t = ![0, 0] ∧ win3_5.index t = ![0, 0] ∧ win3_6.index t = ![0, 0] ∧ win3_7.index t = ![0, t.val + 4] :=
  (by decide +kernel : ∀ t : Fin grid3.N, _)

theorem xA0_eq (t : Fin cfg2.N) : xA0 V c t = V c main_v7 := by blk_ext! [xA0, idxA t]
theorem xA1_at (t : Fin cfg2.N) (r : Fin 1024) (e : Fin 128) (h : (t : ℕ) * 1024 + r < 4096) :
    xA1 V c t (ix2 r e) = V c main_v2_0 (ix2 ⟨t * 1024 + r, h⟩ e) := by blk_ext! [xA1, idxA t]
theorem xA2_at (t : Fin cfg2.N) (r : Fin 1024) (e : Fin 128) (h : (t : ℕ) * 1024 + r < 4096) :
    xA2 V c t (ix2 r e) = V c main_v2_1 (ix2 ⟨t * 1024 + r, h⟩ e) := by blk_ext! [xA2, idxA t]
theorem xA3_eq (t : Fin cfg2.N) : xA3 V c t = V c main_v15 := by blk_ext! [xA3, idxA t]
theorem xA4_eq (t : Fin cfg2.N) : xA4 V c t = V c main_v16 := by blk_ext! [xA4, idxA t]
theorem xA5_eq (t : Fin cfg2.N) : xA5 V c t = V c main_v25 := by blk_ext! [xA5, idxA t]
theorem xB0_eq (t : Fin cfg3.N) : xB0 V c t = V c main_v7 := by blk_ext! [xB0, idxB t]
theorem xB1_at (t : Fin cfg3.N) (r : Fin 1024) (e : Fin 128) (h : (t : ℕ) * 1024 + r < 4096) :
    xB1 V c t (ix2 r e) = V c main_v4_0 (ix2 ⟨t * 1024 + r, h⟩ e) := by blk_ext! [xB1, idxB t]
theorem xB2_at (t : Fin cfg3.N) (r : Fin 1024) (e : Fin 128) (h : (t : ℕ) * 1024 + r < 4096) :
    xB2 V c t (ix2 r e) = V c main_v4_1 (ix2 ⟨t * 1024 + r, h⟩ e) := by blk_ext! [xB2, idxB t]
theorem xB3_eq (t : Fin cfg3.N) : xB3 V c t = V c main_v15 := by blk_ext! [xB3, idxB t]
theorem xB4_eq (t : Fin cfg3.N) : xB4 V c t = V c main_v16 := by blk_ext! [xB4, idxB t]
theorem xB5_eq (t : Fin cfg3.N) : xB5 V c t = V c main_v25 := by blk_ext! [xB5, idxB t]
theorem xB6_eq (t : Fin cfg3.N) : xB6 V c t = V c main_v26_1 := by blk_ext! [xB6, idxB t]

/-! ## The arrays after the calls -/

variable (A : Fin 1000 → Fin 128 → ℝ) (D : Fin 50 → Fin 128 → ℝ) (lam : Fin 50 → ℝ) (U T : Fin 8192 → Fin 128 → ℝ)

/-- The coefficients that both calls read are these reals. -/
structure Coef : Prop where
  shift : ∀ k : Fin 50, V c main_v7 (ix2 k 0) = ((lam k - 1 : ℝ) : EReal)
  items : ∀ (i : Fin 1000) (e : Fin 128), V c main_v15 (ix2 i e) = ((A i e * (1 / lam (cat i)) : ℝ) : EReal)
  cats : ∀ (k : Fin 50) (e : Fin 128), V c main_v16 (ix2 k e) = ((D k e : ℝ) : EReal)
  mask : ∀ (k : Fin 50) (i : Fin 1000), V c main_v25 (ix2 k i) = (((if cat i = k then 1 else 0 : ℝ)) : EReal)

/-- The transposed log-probabilities as an array. -/
def logProbArr : S1000x8192.Idx → EReal := fun j => ((logProb A D lam U T (j 1) (j 0) : ℝ) : EReal)

section
variable {V c A D lam U T}
variable (hC : Coef V c A D lam)
include hC

/-- The normaliser's column. -/
theorem colA_at (hu : ∀ (r : Fin 4096) e, V c main_v2_0 (ix2 r e) = ((U ⟨r, by omega⟩ e : ℝ) : EReal))
    (ht : ∀ (r : Fin 4096) e, V c main_v2_1 (ix2 r e) = ((T ⟨r, by omega⟩ e : ℝ) : EReal)) (k : Fin 50) :
    colA V c (ix2 k 0) = ((norm A D lam U T k : ℝ) : EReal) := by
  unfold colA
  rw [xA0_eq, xA3_eq, xA4_eq, xA5_eq]
  refine norm_at _ _ _ _ _ _ (u := fun r => U ⟨r, by omega⟩) (t := fun r => T ⟨r, by omega⟩) (fun r e => ?_) (fun r e => ?_)
    hC.items hC.mask hC.cats hC.shift k
  · rw [xA1_at V c t2_0 r e (by show 0 * 1024 + r.val < 4096; omega), hu]
    exact congrArg (fun s => ((U s e : ℝ) : EReal)) (Fin.ext (by show 0 * 1024 + r.val = r.val; omega))
  · rw [xA2_at V c t2_0 r e (by show 0 * 1024 + r.val < 4096; omega), ht]
    exact congrArg (fun s => ((T s e : ℝ) : EReal)) (Fin.ext (by show 0 * 1024 + r.val = r.val; omega))

/-- The first call's result: the first four blocks of sessions. -/
theorem outA_arr (hu : ∀ (r : Fin 4096) e, V c main_v2_0 (ix2 r e) = ((U ⟨r, by omega⟩ e : ℝ) : EReal))
    (ht : ∀ (r : Fin 4096) e, V c main_v2_1 (ix2 r e) = ((T ⟨r, by omega⟩ e : ℝ) : EReal)) :
    (datA V c).arrAt 6 cfg2.N = fun j : S1000x8192.Idx => if (j 1 : ℕ) / 1024 < 4 then logProbArr A D lam U T j else V c main_v26_0 j := by
  refine (datA V c).arrAt_eq_of_coversWhere 6 _ (fun β => β (1 : Fin _) < 4) (by decide +kernel) (fun t hf y => ?_) (fun j => Iff.rfl)
  blk_simp
  change outA V c t y = _
  obtain ⟨i, r, rfl⟩ : ∃ (i : Fin 1000) (r : Fin 1024), y = ix2 i r := ⟨y 0, y 1, eq_ix2 y⟩
  have htl : t.val < 4 := t.isLt
  have hlt : t.val * 1024 + r.val < 4096 := by omega
  unfold outA
  rw [xA0_eq, xA3_eq, xA4_eq, xA5_eq]
  refine (out_at _ _ _ _ _ _ _ (u := U ⟨t * 1024 + r, by omega⟩) (t := T ⟨t * 1024 + r, by omega⟩) (M := norm A D lam U T)
    (fun e => (xA1_at V c t r e hlt).trans (hu _ e)) (fun e => (xA2_at V c t r e hlt).trans (ht _ e))
    hC.items hC.mask hC.cats hC.shift (colA_at hC hu ht) i).trans ?_
  rw [show (win2_6.blk t).view.emb (ix2 i r) = (ix2 i ⟨t * 1024 + r, by omega⟩ : S1000x8192.Idx) by blk_ext! [idxA t]]
  rfl

omit hC in
/-- The column as the array that it is written to. -/
theorem colA_arr : (datA V c).arrAt 7 cfg2.N = colA V c := by
  refine (datA V c).arrAt_eq_of_after_last 7 t2_3 (by decide +kernel) _ fun j => ?_
  blk_simp
  rfl

/-- The second call's result: the other four blocks, over what was there. -/
theorem outB_arr (hu : ∀ (r : Fin 4096) e, V c main_v4_0 (ix2 r e) = ((U ⟨4096 + r, by omega⟩ e : ℝ) : EReal))
    (ht : ∀ (r : Fin 4096) e, V c main_v4_1 (ix2 r e) = ((T ⟨4096 + r, by omega⟩ e : ℝ) : EReal))
    (hn : ∀ k, V c main_v26_1 (ix2 k 0) = ((norm A D lam U T k : ℝ) : EReal)) :
    (datB V c).arrAt 7 cfg3.N = fun j : S1000x8192.Idx => if 4 ≤ (j 1 : ℕ) / 1024 then logProbArr A D lam U T j else V c main_v27 j := by
  refine (datB V c).arrAt_eq_of_coversWhere 7 _ (fun β => 4 ≤ β (1 : Fin _)) (by decide +kernel) (fun t hf y => ?_) (fun j => Iff.rfl)
  blk_simp
  change outB V c t y = _
  obtain ⟨i, r, rfl⟩ : ∃ (i : Fin 1000) (r : Fin 1024), y = ix2 i r := ⟨y 0, y 1, eq_ix2 y⟩
  have htl : t.val < 4 := t.isLt
  have hlt : t.val * 1024 + r.val < 4096 := by omega
  unfold outB
  rw [xB0_eq, xB3_eq, xB4_eq, xB5_eq, xB6_eq, body_b_eq]
  refine (out_at _ _ _ _ _ _ _ (u := U ⟨4096 + (t * 1024 + r), by omega⟩) (t := T ⟨4096 + (t * 1024 + r), by omega⟩) (M := norm A D lam U T)
    (fun e => (xB1_at V c t r e hlt).trans (hu _ e)) (fun e => (xB2_at V c t r e hlt).trans (ht _ e))
    hC.items hC.mask hC.cats hC.shift hn i).trans ?_
  rw [show (win3_7.blk t).view.emb (ix2 i r) = (ix2 i ⟨4096 + (t * 1024 + r), by omega⟩ : S1000x8192.Idx) by blk_ext! [idxB t]]
  rfl

end

end Cert.Proof.Value

end
-- ==== Proof.KerValue.lean ====
/-
  The kernel's result at an index, over the reals: the log-probability of the model.
-/
module

public import proofs.«01_k».proof.Proof.KerHost
public import proofs.«01_k».proof.Proof.KerArray

@[expose] public section

set_option maxRecDepth 16384

noncomputable section

namespace Cert.Proof.Value

open Cert.KernelIdeal Cert.KernelIdeal.Gen Cert.Proof.Sc Cert.Proof.Tc Cert.Proof.Run
open Idealize.ShloMosaic Idealize.ShloMosaic.TcCoe
open Idealize.ShloMosaic.StableHlo (after)

variable (m : (ℓ : Loc nD τ sig) → Buf (Elt Ideal) ℓ) (d : Dev nD)

/-- Between the two fused calls nothing else changes. -/
theorem W7_ne (b : Ref sig .tc) (h : b ∉ [main_v26_0, main_v26_1, main_v27]) :
    W7 m d (Proc.devRef .tc b) = W5 m d (Proc.devRef .tc b) := by
  simp only [List.mem_cons, not_or] at h
  obtain ⟨h0, h1, h2, -⟩ := h
  refine (StableHlo.after_unwritten wrD writesD (by simpa using h2) _).trans ?_
  unfold W6
  rw [put_ne _ _ _ _ h1, put_ne _ _ _ _ h0]

variable {A : Fin 1000 → Fin 128 → ℝ} {D : Fin 50 → Fin 128 → ℝ} {lam : Fin 50 → ℝ} {U T : Fin 8192 → Fin 128 → ℝ}
variable (hU : ∀ s e, uRow m d s e = ((U s e : ℝ) : EReal)) (hA : ∀ i e, aAlpha m d (ix2 i e) = ((A i e : ℝ) : EReal))
  (hT : ∀ s e, tRow m d s e = ((T s e : ℝ) : EReal)) (hD : ∀ k e, aBeta m d (ix2 k e) = ((D k e : ℝ) : EReal))
  (hL : ∀ k, aLam m d (ix1 k) = ((lam k : ℝ) : EReal)) (hl : ∀ k, lam k ≠ 0)

include hA hD hL hl in
/-- The coefficients when the first fused call begins; -/
theorem coef5 : Coef (tcVals (W5 m)) d A D lam where
  shift k := by
    refine (v7_at m d k).trans ?_
    rw [hL, ← EReal.coe_one, ← EReal.coe_sub]
  items i e := by
    refine (v15_at m d i e).trans ?_
    rw [hA, hL, Ideal.div_coe (hl _), one_mul, ← EReal.coe_mul]
  cats k e := (v16_at m d k e).trans (hD k e)
  mask k i := v25_at m d k i

include hA hD hL hl in
/-- and when the second does. -/
theorem coef7 : Coef (tcVals (W7 m)) d A D lam where
  shift k := (congrFun (W7_ne m d main_v7 (by decide)) (ix2 k 0)).trans ((coef5 m d hA hD hL hl).shift k)
  items i e := (congrFun (W7_ne m d main_v15 (by decide)) (ix2 i e)).trans ((coef5 m d hA hD hL hl).items i e)
  cats k e := (congrFun (W7_ne m d main_v16 (by decide)) (ix2 k e)).trans ((coef5 m d hA hD hL hl).cats k e)
  mask k i := (congrFun (W7_ne m d main_v25 (by decide)) (ix2 k i)).trans ((coef5 m d hA hD hL hl).mask k i)

include hU hA hT hD hL hl in
/-- The normaliser's column when the second call begins. -/
theorem v26_1_at (k : Fin 50) : W7 m d (Proc.devRef .tc main_v26_1) (ix2 k 0) = ((norm A D lam U T k : ℝ) : EReal) := by
  rw [show W7 m d (Proc.devRef .tc main_v26_1) = W6 m d (Proc.devRef .tc main_v26_1) from StableHlo.after_unwritten wrD writesD (by decide) _]
  unfold W6
  rw [put_self, colA_arr]
  exact colA_at (coef5 m d hA hD hL hl) (fun r e => (v2_0_at m d r e).trans (hU _ e)) (fun r e => (v2_1_at m d r e).trans (hT _ e)) k

include hU hA hT hD hL hl in
/-- The first four blocks, when the second call begins. -/
theorem v27_at (j : S1000x8192.Idx) (hj : (j 1 : ℕ) / 1024 < 4) :
    W7 m d (Proc.devRef .tc main_v27) j = logProbArr A D lam U T j := by
  rw [show W7 m d (Proc.devRef .tc main_v27) = W6 m d (Proc.devRef .tc main_v26_0) by unfold W7; after_reads_at; rfl]
  unfold W6
  rw [put_ne _ _ _ _ (by decide), put_self,
    outA_arr (coef5 m d hA hD hL hl) (fun r e => (v2_0_at m d r e).trans (hU _ e)) (fun r e => (v2_1_at m d r e).trans (hT _ e))]
  exact if_pos hj

include hU hA hT hD hL hl in
/-- The result: every session's log-probabilities. -/
theorem v28_at (s : Fin 8192) (i : Fin 1000) :
    W9 m d (Proc.devRef .tc main_v28) (ix2 s i) = ((logProb A D lam U T s i : ℝ) : EReal) := by
  rw [show W9 m d (Proc.devRef .tc main_v28) (ix2 s i) = W8 m d (Proc.devRef .tc main_v27) (ix2 i s) by unfold W9; after_reads_at]
  unfold W8
  rw [put_self, outB_arr (coef7 m d hA hD hL hl)
    (fun r e => ((congrFun (W7_ne m d main_v4_0 (by decide)) (ix2 r e)).trans (v4_0_at m d r e)).trans (hU _ e))
    (fun r e => ((congrFun (W7_ne m d main_v4_1 (by decide)) (ix2 r e)).trans (v4_1_at m d r e)).trans (hT _ e))
    (v26_1_at m d hU hA hT hD hL hl)]
  dsimp only
  by_cases h : 4 ≤ ((ix2 i s : S1000x8192.Idx) 1 : ℕ) / 1024
  · rw [if_pos h]
    rfl
  · rw [if_neg h]
    exact v27_at m d hU hA hT hD hL hl (ix2 i s) (by omega)

end Cert.Proof.Value

end
-- ==== Proof.RefTerm.lean ====
/-
  The reference's operations over plainly typed arrays, in the reference's order, and its result as one term of its
  six arguments.
-/
module

public import proofs.«01_k».proof.Proof.Gen.ReferenceIdeal.Run
public import proofs.«01_k».proof.Proof.Model

@[expose] public section

set_option maxRecDepth 16384

noncomputable section

namespace Cert.Proof.Value

open Idealize.ShloMosaic Cert.ReferenceIdeal Cert.ReferenceIdeal.Gen

/-- Every item's category: its number divided by twenty, rounded down. -/
def rCat : IVec S1000 32 :=
  select (andi (cmpi .ne (signi (iotaInDim S1000 32 0)) (broadcastInDim S1000 ![] bcast_S_S1000 (signi (constantI S_ 32 20#32))))
      (cmpi .ne (Host.remsi (iotaInDim S1000 32 0) (broadcastInDim S1000 ![] bcast_S_S1000 (constantI S_ 32 20#32)))
        (broadcastInDim S1000 ![] bcast_S_S1000 (constantI S_ 32 0#32))))
    (subi (Host.divsi (iotaInDim S1000 32 0) (broadcastInDim S1000 ![] bcast_S_S1000 (constantI S_ 32 20#32)))
      (broadcastInDim S1000 ![] bcast_S_S1000 (constantI S_ 32 1#32)))
    (Host.divsi (iotaInDim S1000 32 0) (broadcastInDim S1000 ![] bcast_S_S1000 (constantI S_ 32 20#32)))

/-- The column of them that a gather reads. -/
def rCatIx : IVec S1000x1 32 :=
  broadcastInDim S1000x1 ![0] bcast_S1000_S1000x1_0 (select (cmpi .slt rCat (broadcastInDim S1000 ![] bcast_S_S1000 (constantI S_ 32 0#32)))
    (addi rCat (broadcastInDim S1000 ![] bcast_S_S1000 (constantI S_ 32 50#32))) rCat)

/-- The column of the sessions' rows. -/
def rRowIx (a0 : IVec S8192 32) : IVec S8192x1 32 :=
  broadcastInDim S8192x1 ![0] bcast_S8192_S8192x1_0 (select (cmpi .slt a0 (broadcastInDim S8192 ![] bcast_S_S8192 (constantI S_ 32 0#32)))
    (addi a0 (broadcastInDim S8192 ![] bcast_S_S8192 (constantI S_ 32 100000#32))) a0)

/-- The column of the sessions that the normaliser reads. -/
def rSessIx : IVec S50x1 32 :=
  broadcastInDim S50x1 ![0] bcast_S50_S50x1_0
    (select (cmpi .slt (muli (iotaInDim S50 32 0) (broadcastInDim S50 ![] bcast_S_S50 (constantI S_ 32 20#32)))
        (broadcastInDim S50 ![] bcast_S_S50 (constantI S_ 32 0#32)))
      (addi (muli (iotaInDim S50 32 0) (broadcastInDim S50 ![] bcast_S_S50 (constantI S_ 32 20#32)))
        (broadcastInDim S50 ![] bcast_S_S50 (constantI S_ 32 8192#32)))
      (muli (iotaInDim S50 32 0) (broadcastInDim S50 ![] bcast_S_S50 (constantI S_ 32 20#32))))

section
variable (a0 : IVec S8192 32) (a1 : FVec Ideal S100000x128 .f32) (a2 : FVec Ideal S1000x128 .f32) (a3 : FVec Ideal S100000x128 .f32)
  (a4 : FVec Ideal S50x128 .f32) (a5 : FVec Ideal S50 .f32)

/-- Every item's scale. -/
def rLam : FVec Ideal S1000 .f32 := Host.gather gather_S50_S1000x1_S1000_n_0_n_n_0_1_1 a5 rCatIx

/-- The utilities. -/
def rUtil : FVec Ideal S8192x1000 .f32 :=
  Host.divf (Host.dotGeneral dot_S8192x128_S128x1000_S8192x1000_1_0_0_1_n_n none
      (Host.gather gather_S100000x128_S8192x1_S8192x128_1_0_n_n_0_1_1128 a1 (rRowIx a0))
      (transpose S128x1000 [1, 0] a2 transposes_S1000x128_S128x1000_1_0))
    (broadcastInDim S8192x1000 ![0, 1] bcast_S1x1000_S8192x1000_0_1 (broadcastInDim S1x1000 ![1] bcast_S1000_S1x1000_1 (rLam a5)))

/-- A number, or zero in an infinite one's place. -/
def rGuard (x : FVec Ideal S50x8192 .f32) : FVec Ideal S50x8192 .f32 :=
  select (cmpf .olt (Host.absf x) (broadcastInDim S50x8192 ![] bcast_S_S50x8192 (constant S_ .f32 0x7F800000#32))) x
    (broadcastInDim S50x8192 ![] bcast_S_S50x8192 (constant S_ .f32 0x00000000#32))

/-- The utilities by category, item and session. -/
def rBox (x : FVec Ideal S8192x1000 .f32) : FVec Ideal S50x20x8192 .f32 :=
  shapeCast _ (transpose S1000x8192 [1, 0] x transposes_S8192x1000_S1000x8192_1_0) shapeCasts_S1000x8192_S50x20x8192

/-- Every category's greatest utility, guarded. -/
def rTop (x : FVec Ideal S50x20x8192 .f32) : FVec Ideal S50x8192 .f32 :=
  rGuard (Host.reduce FloatOps.maximumf x (constant S_ .f32 0xFF800000#32) reducesTo_S50x20x8192_S50x8192_d1 h_S_)

/-- The inclusive values. -/
def rIncl (x : FVec Ideal S50x20x8192 .f32) : FVec Ideal S50x8192 .f32 :=
  addf (rTop x) (Host.log (Host.reduceAdd (Host.exp (subf x
    (broadcastInDim S50x20x8192 ![0, 1, 2] bcast_S50x1x8192_S50x20x8192_0_1_2 (broadcastInDim S50x1x8192 ![0, 2] bcast_S50x8192_S50x1x8192_0_2 (rTop x)))))
    (constant S_ .f32 0x00000000#32) reducesTo_S50x20x8192_S50x8192_d1 h_S_))

/-- Every item's category's inclusive value. -/
def rInclItem (x : FVec Ideal S50x8192 .f32) : FVec Ideal S8192x1000 .f32 :=
  transpose S8192x1000 [1, 0] (Host.gather gather_S50x8192_S1000x1_S1000x8192_1_0_n_n_0_1_18192 x rCatIx) transposes_S1000x8192_S8192x1000_1_0

/-- The category utilities. -/
def rCatUtil : FVec Ideal S8192x50 .f32 :=
  Host.dotGeneral dot_S8192x128_S128x50_S8192x50_1_0_0_1_n_n none
    (Host.gather gather_S100000x128_S8192x1_S8192x128_1_0_n_n_0_1_1128 a3 (rRowIx a0))
    (transpose S128x50 [1, 0] a4 transposes_S50x128_S128x50_1_0)

/-- The upper level's scores, by item. -/
def rScore (w : FVec Ideal S8192x50 .f32) (l : FVec Ideal S1000 .f32) (x : FVec Ideal S8192x1000 .f32) : FVec Ideal S8192x1000 .f32 :=
  addf (Host.gather gather_S8192x50_S1000x1_S8192x1000_0_1_n_n_1_1_81921 w rCatIx)
    (mulf (broadcastInDim S8192x1000 ![0, 1] bcast_S1x1000_S8192x1000_0_1 (broadcastInDim S1x1000 ![1] bcast_S1000_S1x1000_1 l)) x)

/-- The scores of the sessions that the normaliser reads. -/
def rPick (x : FVec Ideal S8192x1000 .f32) : FVec Ideal S50x1000 .f32 :=
  Host.gather gather_S8192x1000_S50x1_S50x1000_1_0_n_n_0_1_11000 x rSessIx

/-- Their greatest, guarded. -/
def rTop2 (x : FVec Ideal S50x1000 .f32) : FVec Ideal S1x1000 .f32 :=
  select (cmpf .olt (Host.absf (broadcastInDim S1x1000 ![1] bcast_S1000_S1x1000_1
        (Host.reduce FloatOps.maximumf x (constant S_ .f32 0xFF800000#32) reducesTo_S50x1000_S1000_d0 h_S_)))
      (broadcastInDim S1x1000 ![] bcast_S_S1x1000 (constant S_ .f32 0x7F800000#32)))
    (broadcastInDim S1x1000 ![1] bcast_S1000_S1x1000_1
      (Host.reduce FloatOps.maximumf x (constant S_ .f32 0xFF800000#32) reducesTo_S50x1000_S1000_d0 h_S_))
    (broadcastInDim S1x1000 ![] bcast_S_S1x1000 (constant S_ .f32 0x00000000#32))

/-- The normalisers, by item. -/
def rNorm (x : FVec Ideal S50x1000 .f32) : FVec Ideal S1x1000 .f32 :=
  addf (Host.log (broadcastInDim S1x1000 ![1] bcast_S1000_S1x1000_1 (Host.reduceAdd (Host.exp (subf x
      (broadcastInDim S50x1000 ![0, 1] bcast_S1x1000_S50x1000_0_1 (rTop2 x))))
    (constant S_ .f32 0x00000000#32) reducesTo_S50x1000_S1000_d0 h_S_))) (rTop2 x)

/-- The log-probabilities. -/
def rOut : FVec Ideal S8192x1000 .f32 :=
  addf (subf (rUtil a0 a1 a2 a5) (rInclItem (rIncl (rBox (rUtil a0 a1 a2 a5)))))
    (subf (rScore (rCatUtil a0 a3 a4) (rLam a5) (rInclItem (rIncl (rBox (rUtil a0 a1 a2 a5)))))
      (broadcastInDim S8192x1000 ![0, 1] bcast_S1x1000_S8192x1000_0_1
        (rNorm (rPick (rScore (rCatUtil a0 a3 a4) (rLam a5) (rInclItem (rIncl (rBox (rUtil a0 a1 a2 a5)))))))))
end

/-- What the generated run leaves in the result buffer is that term of the arguments' contents. -/
theorem rOut_eq (V : Valuation τ sig (Elt Ideal)) :
    addf (subf (Cert.ReferenceIdeal.Value.res_main_v29 V) (Cert.ReferenceIdeal.Value.res_main_v51 V))
      (subf (Cert.ReferenceIdeal.Value.res_main_v63 V) (broadcastInDim S8192x1000 ![0, 1] bcast_S1x1000_S8192x1000_0_1
        (addf (Host.log (broadcastInDim S1x1000 ![1] bcast_S1000_S1x1000_1 (Host.reduceAdd (Host.exp (subf (Cert.ReferenceIdeal.Value.res_main_v73 V)
            (broadcastInDim S50x1000 ![0, 1] bcast_S1x1000_S50x1000_0_1 (Cert.ReferenceIdeal.Value.res_main_v79 V))))
          (constant S_ .f32 0x00000000#32) reducesTo_S50x1000_S1000_d0 h_S_))) (Cert.ReferenceIdeal.Value.res_main_v79 V))))
      = rOut (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rfl

end Cert.Proof.Value

end
-- ==== Proof.RefIndex.lean ====
/-
  The numbers that the reference's gathers read at, and what each gather reads.
-/
module

public import proofs.«01_k».proof.Proof.RefTerm
public import Idealize.ShloMosaic.Lib.Routing.OpsSet
public import Idealize.ShloMosaic.Lib.WordCmp

@[expose] public section

set_option maxRecDepth 16384

noncomputable section

namespace Cert.Proof.Value

open Idealize.ShloMosaic Cert.ReferenceIdeal Cert.ReferenceIdeal.Gen

/-- An item's category is its number divided by twenty. -/
theorem rCat_at (i : Fin 1000) : rCat (ix1 i) = BitVec.ofNat 32 (cat i) := by
  unfold rCat
  pointwise []
  exact floor_twenty i

/-- A gather's column of categories: none is negative. -/
theorem rCatIx_at (i : Fin 1000) : rCatIx (ix2 i 0) = BitVec.ofNat 32 (cat i) := by
  unfold rCatIx
  pointwise []
  rw [rCat_at]
  exact (by decide +kernel : ∀ k : Fin 50, Scalar.select (IntOp.cmpi CmpIPredicate.slt (BitVec.ofNat 32 k) 0#32)
    (IntOp.addi (BitVec.ofNat 32 k) 50#32) (BitVec.ofNat 32 k) = BitVec.ofNat 32 k) (cat i)

/-- The sessions that the normaliser reads are every twentieth. -/
theorem rSessIx_at (j : Fin 50) : rSessIx (ix2 j 0) = BitVec.ofNat 32 (sess j) := by
  unfold rSessIx
  pointwise []
  revert j
  decide +kernel

/-- The sessions' rows, where no number is negative. -/
theorem rRowIx_at (a0 : IVec S8192 32) (s : Fin 8192) (h : (a0 (ix1 s)).toNat < 100000) :
    rRowIx a0 (ix2 s 0) = BitVec.ofNat 32 (tableRow (a0 (ix1 s))) := by
  unfold rRowIx tableRow
  pointwise []
  rw [Idealize.ShloMosaic.WordCmp.cmpi_slt_zero, decide_eq_false (by omega), Nat.mod_eq_of_lt h, BitVec.ofNat_toNat]
  simp [Scalar.select]

/-- The gather of columns: column `i` of its result is the column that the `i`-th number names. -/
theorem gather_col {α : Type} (x : S8192x50.Idx → α) (idx : IVec S1000x1 32) (s : Fin 8192) (i : Fin 1000) (b : Fin 50)
    (hb : idx (ix2 i 0) = BitVec.ofNat 32 b) :
    Host.gather gather_S8192x50_S1000x1_S8192x1000_0_1_n_n_1_1_81921 x idx (ix2 s i) = x (ix2 s b) := by
  let d := gather_S8192x50_S1000x1_S8192x1000_0_1_n_n_1_1_81921
  unfold Host.gather
  refine congrArg x (funext fun a => Fin.ext ?_)
  match a with
  | ⟨0, _⟩ =>
    show 0 + 0 + s.val = s.val
    omega
  | ⟨1, _⟩ =>
    have hk : (1 : Fin 2) ∉ d.sKept := fun h => ((d.mem_sKept 1).1 h).1 (List.mem_singleton.2 rfl)
    have hm : (1 : Fin 2) ∈ d.startIndexMap := List.mem_singleton.2 rfl
    show d.start (ix2 s i) idx 1 + d.batchCoord (ix2 s i) 1 + d.offCoord (ix2 s i) 1 = b.val
    rw [d.batchCoord_eq_zero _ _ List.not_mem_nil, d.offCoord_eq_zero _ _ hk]
    unfold GatherDims.start
    rw [dif_pos hm]
    have hsi : d.siIdx (ix2 s i) ⟨d.startIndexMap.idxOf 1, List.idxOf_lt_length_iff.2 hm⟩ = ix2 i 0 := by
      funext b'
      match b' with
      | ⟨0, _⟩ => rfl
      | ⟨1, _⟩ => rfl
    rw [hsi, hb, StableHlo.Predicate.toInt_ofNat_small _ (by omega)]
    show min ((b.val : Int)).toNat (50 - 1) + 0 + 0 = b.val
    omega

section
variable (a0 : IVec S8192 32) (h0 : ∀ s, (a0 (ix1 s)).toNat < 100000)
include h0

/-- A table's row for a session. -/
theorem gather_table {α : Type} (x : S100000x128.Idx → α) (s : Fin 8192) (e : Fin 128) :
    Host.gather gather_S100000x128_S8192x1_S8192x128_1_0_n_n_0_1_1128 x (rRowIx a0) (ix2 s e)
      = x (ix2 (tableRow (a0 (ix1 s))) e) :=
  Routing.gather_row gather_S100000x128_S8192x1_S8192x128_1_0_n_n_0_1_1128 rfl rfl rfl rfl rfl x (rRowIx a0) s e (tableRow (a0 (ix1 s))) (rRowIx_at a0 s (h0 s)) (by decide)
end

/-- An item's row of a table of categories; -/
theorem gather_cat {α : Type} (x : S50x8192.Idx → α) (i : Fin 1000) (s : Fin 8192) :
    Host.gather gather_S50x8192_S1000x1_S1000x8192_1_0_n_n_0_1_18192 x rCatIx (ix2 i s) = x (ix2 (cat i) s) :=
  Routing.gather_row gather_S50x8192_S1000x1_S1000x8192_1_0_n_n_0_1_18192 rfl rfl rfl rfl rfl x rCatIx i s _ (rCatIx_at i) (by decide)

/-- an item's entry of a vector over the categories; -/
theorem rLam_at (a5 : FVec Ideal S50 .f32) (i : Fin 1000) : rLam a5 (ix1 i) = a5 (ix1 (cat i)) :=
  Routing.gather_take1 gather_S50_S1000x1_S1000_n_0_n_n_0_1_1 rfl rfl rfl rfl a5 rCatIx i _ (rCatIx_at i) (by decide)

/-- and a normaliser's session's row. -/
theorem rPick_at (x : FVec Ideal S8192x1000 .f32) (j : Fin 50) (i : Fin 1000) : rPick x (ix2 j i) = x (ix2 (sess j) i) :=
  Routing.gather_row gather_S8192x1000_S50x1_S50x1000_1_0_n_n_0_1_11000 rfl rfl rfl rfl rfl x rSessIx j i _ (rSessIx_at j) (by decide)

end Cert.Proof.Value

end
-- ==== Proof.RefValue.lean ====
/-
  The reference's result at an index, over the reals: the log-probability of the model.
-/
module

public import proofs.«01_k».proof.Proof.RefIndex

@[expose] public section

set_option maxRecDepth 16384

noncomputable section

namespace Cert.Proof.Value

open Idealize.ShloMosaic Cert.ReferenceIdeal Cert.ReferenceIdeal.Gen

/-- The bit pattern that the reference's maxima start from denotes `⊥`. -/
theorem start_ref : Ideal.ofBits FTy.f32 0xFF800000#32 = (⊥ : EReal) := by
  simp [Ideal.ofBits, Ideal.ieee]

/-- A guarded real is a real. -/
theorem rGuard_real (x : FVec Ideal S50x8192 .f32) (c : Fin 50) (s : Fin 8192) {r : ℝ} (h : x (ix2 c s) = (r : EReal)) :
    ∃ r' : ℝ, rGuard x (ix2 c s) = (r' : EReal) := by
  unfold rGuard
  pointwise []
  split
  · exact ⟨r, h⟩
  · exact ⟨0, by simp⟩

/-- A category's greatest utility. -/
theorem rMax_at (x : FVec Ideal S50x20x8192 .f32) (c : Fin 50) (s : Fin 8192) :
    Host.reduce FloatOps.maximumf x (constant S_ .f32 0xFF800000#32) reducesTo_S50x20x8192_S50x8192_d1 h_S_ (ix2 c s)
      = Finset.univ.fold max (⊥ : EReal) (fun g : Fin 20 => x (ix3 c g s)) := by
  pointwise []
  rw [start_ref]

section
variable {f : Fin 50 → Fin 20 → Fin 8192 → ℝ} (x : FVec Ideal S50x20x8192 .f32) (hx : ∀ c g s, x (ix3 c g s) = ((f c g s : ℝ) : EReal))
include hx

/-- A category's guarded maximum is a real; -/
theorem rTop_real (c : Fin 50) (s : Fin 8192) : ∃ r : ℝ, rTop x (ix2 c s) = (r : EReal) := by
  obtain ⟨r, hr⟩ := max_real (by decide : 0 < 20) fun g => f c g s
  unfold rTop
  refine rGuard_real _ c s (r := r) ?_
  rw [rMax_at]
  simp only [hx]
  exact hr

/-- and so the sum that is taken less any real column `y` is, with that column added back, the logarithm of the
    exponentials' sum; -/
theorem lse_at (y : FVec Ideal S50x8192 .f32) (c : Fin 50) (s : Fin 8192) (r : ℝ) (hr : y (ix2 c s) = (r : EReal)) :
    addf y (Host.log (Host.reduceAdd (Host.exp (subf x
      (broadcastInDim S50x20x8192 ![0, 1, 2] bcast_S50x1x8192_S50x20x8192_0_1_2 (broadcastInDim S50x1x8192 ![0, 2] bcast_S50x8192_S50x1x8192_0_2 y))))
      (constant S_ .f32 0x00000000#32) reducesTo_S50x20x8192_S50x8192_d1 h_S_)) (ix2 c s)
      = ((Real.log (∑ g, Real.exp (f c g s)) : ℝ) : EReal) := by
  pointwise []
  rw [hr]
  simp only [hx]
  exact lse_real (by decide) _ _

/-- which is what the inclusive value is. -/
theorem rIncl_at (c : Fin 50) (s : Fin 8192) : rIncl x (ix2 c s) = ((Real.log (∑ g, Real.exp (f c g s)) : ℝ) : EReal) := by
  obtain ⟨r, hr⟩ := rTop_real x hx c s
  exact lse_at x hx (rTop x) c s r hr
end

section
variable {f : Fin 50 → Fin 1000 → ℝ} (x : FVec Ideal S50x1000 .f32) (hx : ∀ j i, x (ix2 j i) = ((f j i : ℝ) : EReal))
include hx

/-- An item's guarded greatest score is a real; -/
theorem rTop2_real (i : Fin 1000) : ∃ r : ℝ, rTop2 x (ix2 0 i) = (r : EReal) := by
  obtain ⟨r, hr⟩ := max_real (by decide : 0 < 50) fun j => f j i
  unfold rTop2
  pointwise []
  rw [start_ref]
  simp only [hx]
  rw [hr]
  split
  · exact ⟨r, rfl⟩
  · exact ⟨0, by simp⟩

/-- and the normaliser is the logarithm of the exponentials' sum. -/
theorem rNorm_at (i : Fin 1000) : rNorm x (ix2 0 i) = ((Real.log (∑ j, Real.exp (f j i)) : ℝ) : EReal) := by
  obtain ⟨r, hr⟩ := rTop2_real x hx i
  unfold rNorm
  pointwise []
  rw [hr]
  simp only [hx]
  exact (add_comm _ _).trans (lse_real (by decide) _ _)
end

/-! ## The result -/

section
variable {A : Fin 1000 → Fin 128 → ℝ} {D : Fin 50 → Fin 128 → ℝ} {lam : Fin 50 → ℝ} {U T : Fin 8192 → Fin 128 → ℝ}
variable (a0 : IVec S8192 32) (a1 : FVec Ideal S100000x128 .f32) (a2 : FVec Ideal S1000x128 .f32) (a3 : FVec Ideal S100000x128 .f32)
  (a4 : FVec Ideal S50x128 .f32) (a5 : FVec Ideal S50 .f32)
variable (h0 : ∀ s, (a0 (ix1 s)).toNat < 100000)
  (h1 : ∀ s e, a1 (ix2 (tableRow (a0 (ix1 s))) e) = ((U s e : ℝ) : EReal))
  (h2 : ∀ i e, a2 (ix2 i e) = ((A i e : ℝ) : EReal))
  (h3 : ∀ s e, a3 (ix2 (tableRow (a0 (ix1 s))) e) = ((T s e : ℝ) : EReal))
  (h4 : ∀ c e, a4 (ix2 c e) = ((D c e : ℝ) : EReal)) (h5 : ∀ c, a5 (ix1 c) = ((lam c : ℝ) : EReal)) (hl : ∀ c, lam c ≠ 0)

include h0 h1 h2 h5 hl in
/-- The utilities; -/
theorem rUtil_at (s : Fin 8192) (i : Fin 1000) : rUtil a0 a1 a2 a5 (ix2 s i) = ((util A lam (U s) i : ℝ) : EReal) := by
  unfold rUtil
  pointwise []
  simp only [gather_table a0 h0, h1, h2, rLam_at, h5, ← EReal.coe_mul]
  rw [coe_sum, Ideal.div_coe (hl _), ← EReal.coe_mul]
  congr 1
  rw [util]
  ring

include h0 h1 h2 h5 hl in
/-- the inclusive values, at an item; -/
theorem rInclItem_at (s : Fin 8192) (i : Fin 1000) :
    rInclItem (rIncl (rBox (rUtil a0 a1 a2 a5))) (ix2 s i) = ((incl A lam (U s) (cat i) : ℝ) : EReal) := by
  unfold rInclItem
  pointwise []
  rw [gather_cat]
  refine rIncl_at (f := fun c g s => util A lam (U s) (item c g)) _ (fun c g s => ?_) _ _
  unfold rBox
  pointwise []
  exact rUtil_at a0 a1 a2 a5 h0 h1 h2 h5 hl s (item c g)

include h0 h3 h4 in
/-- the category utilities; -/
theorem rCatUtil_at (s : Fin 8192) (c : Fin 50) : rCatUtil a0 a3 a4 (ix2 s c) = ((catUtil D (T s) c : ℝ) : EReal) := by
  unfold rCatUtil
  pointwise []
  simp only [gather_table a0 h0, h3, h4, ← EReal.coe_mul]
  rw [coe_sum]
  rfl

include h0 h1 h2 h3 h4 h5 hl in
/-- the scores; -/
theorem rScore_at (s : Fin 8192) (i : Fin 1000) :
    rScore (rCatUtil a0 a3 a4) (rLam a5) (rInclItem (rIncl (rBox (rUtil a0 a1 a2 a5)))) (ix2 s i)
      = ((score A D lam (U s) (T s) (cat i) : ℝ) : EReal) := by
  unfold rScore
  pointwise []
  rw [gather_col _ _ _ _ _ (rCatIx_at i), rCatUtil_at a0 a3 a4 h0 h3 h4, rLam_at, h5, rInclItem_at a0 a1 a2 a5 h0 h1 h2 h5 hl,
    ← EReal.coe_mul, ← EReal.coe_add]
  rfl

include h0 h1 h2 h3 h4 h5 hl in
/-- and the log-probabilities. -/
theorem rOut_at (s : Fin 8192) (i : Fin 1000) : rOut a0 a1 a2 a3 a4 a5 (ix2 s i) = ((logProb A D lam U T s i : ℝ) : EReal) := by
  unfold rOut
  pointwise []
  rw [rUtil_at a0 a1 a2 a5 h0 h1 h2 h5 hl, rInclItem_at a0 a1 a2 a5 h0 h1 h2 h5 hl, rScore_at a0 a1 a2 a3 a4 a5 h0 h1 h2 h3 h4 h5 hl,
    rNorm_at (f := fun j i => score A D lam (U (sess j)) (T (sess j)) (cat i)) _ (fun j i =>
      (rPick_at _ j i).trans (rScore_at a0 a1 a2 a3 a4 a5 h0 h1 h2 h3 h4 h5 hl (sess j) i)) i,
    ← EReal.coe_sub, ← EReal.coe_sub, ← EReal.coe_add]
  rfl
end

end Cert.Proof.Value

end
-- ==== Proof.Equation.lean ====
/-
  The equation: from the same arguments the kernel and the reference leave the same result.
-/
module

public import proofs.«01_k».proof.Proof.KerValue
public import proofs.«01_k».proof.Proof.RefValue
public import proofs.«01_k».proof.Proof.Frames

@[expose] public section

set_option maxRecDepth 16384

noncomputable section

namespace Cert.Proof.Value

open Idealize.ShloMosaic Idealize.ShloMosaic.TcCoe Idealize.SL.Sem
open Cert.Proof.Run Cert.Proof.Sc

/-- On a device whose arguments are in range and real, and whose lambda weights are not zero, the reference's term of
    the arguments is what the kernel's run leaves. -/
theorem results_same (m : (ℓ : Loc Cert.KernelIdeal.nD Cert.KernelIdeal.τ Cert.KernelIdeal.sig) → Buf (Elt Ideal) ℓ) (d : Dev Cert.KernelIdeal.nD)
    (h0 : ∀ j, (aIdx m d j).toNat < 100000) (h1 : ∀ j, ∃ r : ℝ, aItems m d j = (r : EReal)) (h2 : ∀ j, ∃ r : ℝ, aAlpha m d j = (r : EReal))
    (h3 : ∀ j, ∃ r : ℝ, aCats m d j = (r : EReal)) (h4 : ∀ j, ∃ r : ℝ, aBeta m d j = (r : EReal))
    (h5 : ∀ j, ∃ r : ℝ, r ≠ 0 ∧ aLam m d j = (r : EReal)) :
    (rOut (aIdx m d) (aItems m d) (aAlpha m d) (aCats m d) (aBeta m d) (aLam m d) : Cert.ReferenceIdeal.S8192x1000.Idx → EReal)
      = W9 m d (Proc.devRef .tc Cert.KernelIdeal.main_v28) := by
  choose f1 e1 using h1
  choose f2 e2 using h2
  choose f3 e3 using h3
  choose f4 e4 using h4
  choose f5 n5 e5 using h5
  funext j
  obtain ⟨s, i, rfl⟩ : ∃ (s : Fin 8192) (i : Fin 1000), j = ix2 s i := ⟨j 0, j 1, eq_ix2 j⟩
  refine (rOut_at (A := fun i e => f2 (ix2 i e)) (D := fun k e => f4 (ix2 k e)) (lam := fun k => f5 (ix1 k))
    (U := fun s e => f1 (ix2 (tableRow (aIdx m d (ix1 s))) e))
    (T := fun s e => f3 (ix2 (tableRow (aIdx m d (ix1 s))) e)) _ _ _ _ _ _
    (fun s => h0 (ix1 s)) (fun s e => e1 _) (fun i e => e2 _) (fun s e => e3 _) (fun k e => e4 _) (fun k => e5 _) (fun k => n5 _) s i).trans ?_
  exact (v28_at m d (fun s e => e1 _) (fun i e => e2 _) (fun s e => e3 _) (fun k e => e4 _) (fun k => e5 _) (fun k => n5 _) s i).symm

/-- The equation of the certificate. -/
theorem equation : Cert.algebraic_KernelIdeal_ReferenceIdeal_pre_ok (hKernelIdeal := Cert.KernelIdeal.Gen.facts)
    (hReferenceIdeal := Cert.ReferenceIdeal.Gen.facts) (hPre_ok := Cert.Pre_ok.Gen.facts) := by
  intro m g m' g' hp hm
  have ok := fun c => Pre.of_ok _ _ _ _ _ _ (hp c)
  refine ⟨fun c => W9 m c (Proc.devRef .tc Cert.KernelIdeal.main_v28),
    (θ_run (Cert.KernelIdeal.defs (F := Ideal)) _ _).mono (fun r hr => hr.1) (frame_main (F := Ideal) m g fun d j => (ok d).1 j),
    (θ_run Cert.ReferenceIdeal.defs _ _).mono (fun r hr c => ⟨(hr c).1.trans ?_, (hr c).2⟩) (Cert.ReferenceIdeal.Value.run (F := Ideal) m' g')⟩
  obtain ⟨a0, a1, a2, a3, a4, a5⟩ := hm c
  obtain ⟨k0, k1, k2, k3, k4, k5⟩ := ok c
  refine (rOut_eq (StableHlo.launchContents m' c)).trans (Eq.trans ?_ (results_same m c k0 k1 k2 k3 k4 k5))
  exact congr (congr (congr (congr (congr (congrArg rOut a0) a1) a2) a3) a4) a5

end Cert.Proof.Value

end
-- ==== Proof.lean ====
/-
  The certificate's claims, assembled: the frames of the kernel (its floats read as bit patterns, and as extended reals)
  and of the reference, and the equation of the two results over the extended reals.
-/
module

public import proofs.«01_k».proof.Defs
public import proofs.«01_k».proof.Proof.Frames
public import proofs.«01_k».proof.Proof.FrameKernel
public import proofs.«01_k».proof.Proof.FrameRef
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_ok

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts, Cert.Pre_ok.Gen.facts,
    Run.frame_kernel, Run.frame_ideal, Run.frame_ideal_ok, Run.frame_reference, Run.frame_reference_ok, trivial, Value.equation⟩

end Cert.Proof

end
